-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x15872 : Shape := ⟨2, ![512, 15872]⟩
abbrev S15872 : Shape := ⟨1, ![15872]⟩
abbrev S15872x15872 : Shape := ⟨2, ![15872, 15872]⟩
abbrev S15872x992 : Shape := ⟨2, ![15872, 992]⟩
abbrev S992 : Shape := ⟨1, ![992]⟩
abbrev S992x32 : Shape := ⟨2, ![992, 32]⟩
abbrev S4x1x3968 : Shape := ⟨3, ![4, 1, 3968]⟩
abbrev S62x1x256 : Shape := ⟨3, ![62, 1, 256]⟩
abbrev S1x992 : Shape := ⟨2, ![1, 992]⟩
abbrev S256x32 : Shape := ⟨2, ![256, 32]⟩
abbrev S256x15872 : Shape := ⟨2, ![256, 15872]⟩
abbrev S2x15872x256 : Shape := ⟨3, ![2, 15872, 256]⟩
abbrev S1x512x3968 : Shape := ⟨3, ![1, 512, 3968]⟩
abbrev S2x256x992 : Shape := ⟨3, ![2, 256, 992]⟩
abbrev S256x992 : Shape := ⟨2, ![256, 992]⟩
abbrev S2x2 : Shape := ⟨2, ![2, 2]⟩
abbrev S1 : Shape := ⟨1, ![1]⟩
abbrev S2 : Shape := ⟨1, ![2]⟩
abbrev S1x1 : Shape := ⟨2, ![1, 1]⟩
abbrev S_ : Shape := ⟨0, ![]⟩
abbrev S1x7936x256 : Shape := ⟨3, ![1, 7936, 256]⟩
abbrev S7936x256 : Shape := ⟨2, ![7936, 256]⟩
abbrev S1x256x992 : Shape := ⟨3, ![1, 256, 992]⟩
abbrev S512x3968 : Shape := ⟨2, ![512, 3968]⟩
abbrev S256x3968 : Shape := ⟨2, ![256, 3968]⟩
abbrev S1x1x3968 : Shape := ⟨3, ![1, 1, 3968]⟩
abbrev S1x3968 : Shape := ⟨2, ![1, 3968]⟩
abbrev S1x15872x256 : Shape := ⟨3, ![1, 15872, 256]⟩
abbrev S15872x256 : Shape := ⟨2, ![15872, 256]⟩
abbrev S256x256 : Shape := ⟨2, ![256, 256]⟩
abbrev S1x1x256 : Shape := ⟨3, ![1, 1, 256]⟩
abbrev S1x256 : Shape := ⟨2, ![1, 256]⟩
abbrev S1x32 : Shape := ⟨2, ![1, 32]⟩

abbrev nBuf : Space → Nat
  | .hbm => 12
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S512x15872, .f32⟩
  | .hbm, ⟨2, _⟩ => ⟨S15872, .f32⟩
  | .hbm, ⟨3, _⟩ => ⟨S15872x15872, .f32⟩
  | .hbm, ⟨4, _⟩ => ⟨S15872, .f32⟩
  | .hbm, ⟨5, _⟩ => ⟨S15872x992, .f32⟩
  | .hbm, ⟨6, _⟩ => ⟨S992, .f32⟩
  | .hbm, ⟨7, _⟩ => ⟨S992x32, .f32⟩
  | .hbm, ⟨8, _⟩ => ⟨S4x1x3968, .f32⟩
  | .hbm, ⟨9, _⟩ => ⟨S62x1x256, .f32⟩
  | .hbm, ⟨10, _⟩ => ⟨S1x992, .f32⟩
  | .hbm, ⟨11, _⟩ => ⟨S256x32, .f32⟩
  | .local _ .vmem, ⟨0, _⟩ => ⟨S256x512, .f32⟩
  | .local _ .vmem, ⟨1, _⟩ => ⟨S4x1x3968, .f32⟩
  | .local _ .vmem, ⟨2, _⟩ => ⟨S62x1x256, .f32⟩
  | .local _ .vmem, ⟨3, _⟩ => ⟨S992x32, .f32⟩
  | .local _ .vmem, ⟨4, _⟩ => ⟨S1x992, .f32⟩
  | .local _ .vmem, ⟨5, _⟩ => ⟨S256x32, .f32⟩
  | .local _ .vmem, ⟨6, _⟩ => ⟨S256x15872, .bf16⟩
  | .local _ .vmem, ⟨7, _⟩ => ⟨S2x15872x256, .f32⟩
  | .local _ .vmem, ⟨8, _⟩ => ⟨S1x512x3968, .f32⟩
  | .local _ .vmem, ⟨9, _⟩ => ⟨S2x256x992, .f32⟩
  | .local _ .vmem, ⟨10, _⟩ => ⟨S256x992, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_100 : BitVec 32 := 0#32
  let c62_i32 : BitVec 32 := 62#32
  let v117 : BitVec 32 := Scalar.addi c0_i32_100 c62_i32
  let c1_i32_101 : BitVec 32 := 1#32
  ⟨c0_i32_100, v117, c1_i32_101⟩
def k0_cond1 (k0_t1 : Fin k0_t1_loop.trips) : BitVec 1 :=
  let c0_i32_100 : BitVec 32 := 0#32
  let c1_i32_101 : BitVec 32 := 1#32
  let arg17 : BitVec 32 := Scf.iv c0_i32_100 c1_i32_101 k0_t1
  let c1_i32_115 : BitVec 32 := 1#32
  let v133 : BitVec 32 := Scalar.addi arg17 c1_i32_115
  let c62_i32_116 : BitVec 32 := 62#32
  let v134 : BitVec 1 := Scalar.cmpi .slt v133 c62_i32_116
  let v135 : BitVec 32 := Scalar.extui v134
  let c0_i32_117 : BitVec 32 := 0#32
  let v136 : BitVec 1 := Scalar.cmpi .ne v135 c0_i32_117
  v136

def k0_off1 (k0_t1 : Fin k0_t1_loop.trips) : Fin 2 → Nat :=
  let c0_i32_100 : BitVec 32 := 0#32
  let c1_i32_101 : BitVec 32 := 1#32
  let arg17 : BitVec 32 := Scf.iv c0_i32_100 c1_i32_101 k0_t1
  let c1_i32_113 : BitVec 32 := 1#32
  let v131 : BitVec 32 := Scalar.addi arg17 c1_i32_113
  let c2_i32_114 : BitVec 32 := 2#32
  let v132 : BitVec 32 := Scalar.remsi v131 c2_i32_114
  let c0_i32_148 : BitVec 32 := 0#32
  ![v132.toNat, 0]
def k0_off2 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c1_i32_113 : BitVec 32 := 1#32
  let v131 : BitVec 32 := Scalar.addi arg17 c1_i32_113
  let c2_i32_114 : BitVec 32 := 2#32
  let v132 : BitVec 32 := Scalar.remsi v131 c2_i32_114
  let c0_i32_149 : BitVec 32 := 0#32
  let c0_i32_150 : BitVec 32 := 0#32
  ![v132.toNat, 0, 0]
def k0_off3 (k0_t1 : Fin k0_t1_loop.trips) : Fin 2 → Nat :=
  let c0_i32_151 : BitVec 32 := 0#32
  let c0_i32_100 : BitVec 32 := 0#32
  let c1_i32_101 : BitVec 32 := 1#32
  let arg17 : BitVec 32 := Scf.iv c0_i32_100 c1_i32_101 k0_t1
  let c1_i32_146 : BitVec 32 := 1#32
  let v179 : BitVec 32 := Scalar.addi arg17 c1_i32_146
  let c256_i32_147 : BitVec 32 := 256#32
  let v180 : BitVec 32 := Scalar.muli v179 c256_i32_147
  ![0, v180.toNat]
def k0_off4 (k0_t1 : Fin k0_t1_loop.trips) : Fin 2 → Nat :=
  let c0_i32_100 : BitVec 32 := 0#32
  let c1_i32_101 : BitVec 32 := 1#32
  let arg17 : BitVec 32 := Scf.iv c0_i32_100 c1_i32_101 k0_t1
  let c1_i32_113 : BitVec 32 := 1#32
  let v131 : BitVec 32 := Scalar.addi arg17 c1_i32_113
  let c2_i32_114 : BitVec 32 := 2#32
  let v132 : BitVec 32 := Scalar.remsi v131 c2_i32_114
  let c1_i32_154 : BitVec 32 := 1#32
  ![v132.toNat, 1]
def k0_off5 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c1_i32_113 : BitVec 32 := 1#32
  let v131 : BitVec 32 := Scalar.addi arg17 c1_i32_113
  let c2_i32_114 : BitVec 32 := 2#32
  let v132 : BitVec 32 := Scalar.remsi v131 c2_i32_114
  let c7936_i32_155 : BitVec 32 := 7936#32
  let c0_i32_156 : BitVec 32 := 0#32
  ![v132.toNat, 7936, 0]
def k0_off6 (k0_t1 : Fin k0_t1_loop.trips) : Fin 2 → Nat :=
  let c7936_i32_157 : BitVec 32 := 7936#32
  let c0_i32_100 : BitVec 32 := 0#32
  let c1_i32_101 : BitVec 32 := 1#32
  let arg17 : BitVec 32 := Scf.iv c0_i32_100 c1_i32_101 k0_t1
  let c1_i32_152 : BitVec 32 := 1#32
  let v186 : BitVec 32 := Scalar.addi arg17 c1_i32_152
  let c256_i32_153 : BitVec 32 := 256#32
  let v187 : BitVec 32 := Scalar.muli v186 c256_i32_153
  ![7936, v187.toNat]
def k0_off7 (k0_t1 : Fin k0_t1_loop.trips) : Fin 1 → Nat :=
  let c0_i32_100 : BitVec 32 := 0#32
  let c1_i32_101 : BitVec 32 := 1#32
  let arg17 : BitVec 32 := Scf.iv c0_i32_100 c1_i32_101 k0_t1
  let c1_i32_113 : BitVec 32 := 1#32
  let v131 : BitVec 32 := Scalar.addi arg17 c1_i32_113
  let c2_i32_114 : BitVec 32 := 2#32
  let v132 : BitVec 32 := Scalar.remsi v131 c2_i32_114
  ![v132.toNat]
def k0_off8 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c1_i32_113 : BitVec 32 := 1#32
  let v131 : BitVec 32 := Scalar.addi arg17 c1_i32_113
  let c2_i32_114 : BitVec 32 := 2#32
  let v132 : BitVec 32 := Scalar.remsi v131 c2_i32_114
  let c0_i32_160 : BitVec 32 := 0#32
  let c0_i32_161 : BitVec 32 := 0#32
  ![v132.toNat, 0, 0]
def k0_off9 (k0_t1 : Fin k0_t1_loop.trips) : Fin 2 → Nat :=
  let c0_i32_100 : BitVec 32 := 0#32
  let c1_i32_101 : BitVec 32 := 1#32
  let arg17 : BitVec 32 := Scf.iv c0_i32_100 c1_i32_101 k0_t1
  let c1_i32_158 : BitVec 32 := 1#32
  let v193 : BitVec 32 := Scalar.addi arg17 c1_i32_158
  let c256_i32_159 : BitVec 32 := 256#32
  let v194 : BitVec 32 := Scalar.muli v193 c256_i32_159
  let c0_i32_162 : BitVec 32 := 0#32
  ![v194.toNat, 0]
def k0_off10 (k0_t1 : Fin k0_t1_loop.trips) : Fin 2 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let c0_i32_118 : BitVec 32 := 0#32
  ![v130.toNat, 0]
def k0_off11 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let c0_i32_119 : BitVec 32 := 0#32
  let c0_i32_120 : BitVec 32 := 0#32
  ![v130.toNat, 0, 0]
def k0_off12 (k0_t1 : Fin k0_t1_loop.trips) : Fin 2 → Nat :=
  let c0_i32_121 : BitVec 32 := 0#32
  let c0_i32_100 : BitVec 32 := 0#32
  let c1_i32_101 : BitVec 32 := 1#32
  let arg17 : BitVec 32 := Scf.iv c0_i32_100 c1_i32_101 k0_t1
  let c256_i32 : BitVec 32 := 256#32
  let v137 : BitVec 32 := Scalar.muli arg17 c256_i32
  ![0, v137.toNat]
def k0_off13 (k0_t1 : Fin k0_t1_loop.trips) : Fin 2 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let c1_i32_123 : BitVec 32 := 1#32
  ![v130.toNat, 1]
def k0_off14 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let c7936_i32_124 : BitVec 32 := 7936#32
  let c0_i32_125 : BitVec 32 := 0#32
  ![v130.toNat, 7936, 0]
def k0_off15 (k0_t1 : Fin k0_t1_loop.trips) : Fin 2 → Nat :=
  let c7936_i32_126 : BitVec 32 := 7936#32
  let c0_i32_100 : BitVec 32 := 0#32
  let c1_i32_101 : BitVec 32 := 1#32
  let arg17 : BitVec 32 := Scf.iv c0_i32_100 c1_i32_101 k0_t1
  let c256_i32_122 : BitVec 32 := 256#32
  let v143 : BitVec 32 := Scalar.muli arg17 c256_i32_122
  ![7936, v143.toNat]
def k0_off16 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let v150 : Index := Scalar.indexCast v130
  let c0_129 : Index := 0#32
  let c0_130 : Index := 0#32
  ![v150.toNat, 0, 0]
def k0_off17 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let v155 : Index := Scalar.indexCast arg17
  let c0_132 : Index := 0#32
  let c0_133 : Index := 0#32
  ![v155.toNat, 0, 0]
def k0_off18 (k0_t1 : Fin k0_t1_loop.trips) : Fin 1 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  ![v130.toNat]
def k0_off19 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let c0_i32_136 : BitVec 32 := 0#32
  let c0_i32_137 : BitVec 32 := 0#32
  ![v130.toNat, 0, 0]
def k0_off20 (k0_t1 : Fin k0_t1_loop.trips) : Fin 2 → Nat :=
  let c0_i32_100 : BitVec 32 := 0#32
  let c1_i32_101 : BitVec 32 := 1#32
  let arg17 : BitVec 32 := Scf.iv c0_i32_100 c1_i32_101 k0_t1
  let c256_i32_135 : BitVec 32 := 256#32
  let v162 : BitVec 32 := Scalar.muli arg17 c256_i32_135
  let c0_i32_138 : BitVec 32 := 0#32
  ![v162.toNat, 0]
def k0_off21 (k0_t1 : Fin k0_t1_loop.trips) : Fin 3 → Nat :=
  let c0_i32_100 : BitVec 32 := 0#32
  let c1_i32_101 : BitVec 32 := 1#32
  let arg17 : BitVec 32 := Scf.iv c0_i32_100 c1_i32_101 k0_t1
  let c2_i32 : BitVec 32 := 2#32
  let v130 : BitVec 32 := Scalar.remsi arg17 c2_i32
  let v170 : Index := Scalar.indexCast v130
  let c0_141 : Index := 0#32
  let c0_142 : Index := 0#32
  ![v170.toNat, 0, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x3968 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S62x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S992x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x992 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x512 : Shape := ⟨2, ![256, 512]⟩
abbrev S512x15872 : Shape := ⟨2, ![512, 15872]⟩
abbrev S15872 : Shape := ⟨1, ![15872]⟩
abbrev S15872x15872 : Shape := ⟨2, ![15872, 15872]⟩
abbrev S15872x992 : Shape := ⟨2, ![15872, 992]⟩
abbrev S992 : Shape := ⟨1, ![992]⟩
abbrev S496 : Shape := ⟨1, ![496]⟩
abbrev S256x15872 : Shape := ⟨2, ![256, 15872]⟩
abbrev S1x15872 : Shape := ⟨2, ![1, 15872]⟩
abbrev S_ : Shape := ⟨0, ![]⟩
abbrev S256x992 : Shape := ⟨2, ![256, 992]⟩
abbrev S1x992 : Shape := ⟨2, ![1, 992]⟩
abbrev S256x496x2 : Shape := ⟨3, ![256, 496, 2]⟩
abbrev S256x496x1 : Shape := ⟨3, ![256, 496, 1]⟩
abbrev S256x496 : Shape := ⟨2, ![256, 496]⟩
abbrev S256x32 : Shape := ⟨2, ![256, 32]⟩
abbrev S496x1 : Shape := ⟨2, ![496, 1]⟩

abbrev nBuf : Space → Nat
  | .hbm => 73
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x15872, .f32⟩
  | .hbm, ⟨2, _⟩ => ⟨S15872, .f32⟩
  | .hbm, ⟨3, _⟩ => ⟨S15872x15872, .f32⟩
  | .hbm, ⟨4, _⟩ => ⟨S15872, .f32⟩
  | .hbm, ⟨5, _⟩ => ⟨S15872x992, .f32⟩
  | .hbm, ⟨6, _⟩ => ⟨S992, .f32⟩
  | .hbm, ⟨7, _⟩ => ⟨S496, .i32⟩
  | .hbm, ⟨8, _⟩ => ⟨S496, .i32⟩
  | .hbm, ⟨9, _⟩ => ⟨S256x15872, .f32⟩
  | .hbm, ⟨10, _⟩ => ⟨S1x15872, .f32⟩
  | .hbm, ⟨11, _⟩ => ⟨S256x15872, .f32⟩
  | .hbm, ⟨12, _⟩ => ⟨S256x15872, .f32⟩
  | .hbm, ⟨13, _⟩ => ⟨S_, .f32⟩
  | .hbm, ⟨14, _⟩ => ⟨S256x15872, .f32⟩
  | .hbm, ⟨15, _⟩ => ⟨S256x15872, .f32⟩
  | .hbm, ⟨16, _⟩ => ⟨S256x15872, .f32⟩
  | .hbm, ⟨17, _⟩ => ⟨S1x15872, .f32⟩
  | .hbm, ⟨18, _⟩ => ⟨S256x15872, .f32⟩
  | .hbm, ⟨19, _⟩ => ⟨S256x15872, .f32⟩
  | .hbm, ⟨20, _⟩ => ⟨S_, .f32⟩
  | .hbm, ⟨21, _⟩ => ⟨S256x15872, .f32⟩
  | .hbm, ⟨22, _⟩ => ⟨S256x15872, .f32⟩
  | .hbm, ⟨23, _⟩ => ⟨S256x992, .f32⟩
  | .hbm, ⟨24, _⟩ => ⟨S1x992, .f32⟩
  | .hbm, ⟨25, _⟩ => ⟨S256x992, .f32⟩
  | .hbm, ⟨26, _⟩ => ⟨S256x992, .f32⟩
  | .hbm, ⟨27, _⟩ => ⟨S256x496x2, .f32⟩
  | .hbm, ⟨28, _⟩ => ⟨S256x496x1, .f32⟩
  | .hbm, ⟨29, _⟩ => ⟨S256x496, .f32⟩
  | .hbm, ⟨30, _⟩ => ⟨S256x496x1, .f32⟩
  | .hbm, ⟨31, _⟩ => ⟨S256x496, .f32⟩
  | .hbm, ⟨32, _⟩ => ⟨S256x496, .f32⟩
  | .hbm, ⟨33, _⟩ => ⟨S_, .f32⟩
  | .hbm, ⟨34, _⟩ => ⟨S256x496, .f32⟩
  | .hbm, ⟨35, _⟩ => ⟨S256x496, .i1⟩
  | .hbm, ⟨36, _⟩ => ⟨S256x496, .f32⟩
  | .hbm, ⟨37, _⟩ => ⟨S_, .f32⟩
  | .hbm, ⟨38, _⟩ => ⟨S256x496, .f32⟩
  | .hbm, ⟨39, _⟩ => ⟨S256x496, .i1⟩
  | .hbm, ⟨40, _⟩ => ⟨S256x496, .i1⟩
  | .hbm, ⟨41, _⟩ => ⟨S256x496x1, .f32⟩
  | .hbm, ⟨42, _⟩ => ⟨S256x496, .f32⟩
  | .hbm, ⟨43, _⟩ => ⟨S_, .f32⟩
  | .hbm, ⟨44, _⟩ => ⟨S_, .f32⟩
  | .hbm, ⟨45, _⟩ => ⟨S256x496, .f32⟩
  | .hbm, ⟨46, _⟩ => ⟨S256x496, .f32⟩
  | .hbm, ⟨47, _⟩ => ⟨S256x496x1, .f32⟩
  | .hbm, ⟨48, _⟩ => ⟨S256x496, .f32⟩
  | .hbm, ⟨49, _⟩ => ⟨S_, .f32⟩
  | .hbm, ⟨50, _⟩ => ⟨S_, .f32⟩
  | .hbm, ⟨51, _⟩ => ⟨S256x496, .f32⟩
  | .hbm, ⟨52, _⟩ => ⟨S256x496, .f32⟩
  | .hbm, ⟨53, _⟩ => ⟨S_, .f32⟩
  | .hbm, ⟨54, _⟩ => ⟨S256x32, .f32⟩
  | .hbm, ⟨55, _⟩ => ⟨S_, .i32⟩
  | .hbm, ⟨56, _⟩ => ⟨S496, .i32⟩
  | .hbm, ⟨57, _⟩ => ⟨S496, .i1⟩
  | .hbm, ⟨58, _⟩ => ⟨S_, .i32⟩
  | .hbm, ⟨59, _⟩ => ⟨S496, .i32⟩
  | .hbm, ⟨60, _⟩ => ⟨S496, .i32⟩
  | .hbm, ⟨61, _⟩ => ⟨S496, .i32⟩
  | .hbm, ⟨62, _⟩ => ⟨S496x1, .i32⟩
  | .hbm, ⟨63, _⟩ => ⟨S256x32, .f32⟩
  | .hbm, ⟨64, _⟩ => ⟨S_, .i32⟩
  | .hbm, ⟨65, _⟩ => ⟨S496, .i32⟩
  | .hbm, ⟨66, _⟩ => ⟨S496, .i1⟩
  | .hbm, ⟨67, _⟩ => ⟨S_, .i32⟩
  | .hbm, ⟨68, _⟩ => ⟨S496, .i32⟩
  | .hbm, ⟨69, _⟩ => ⟨S496, .i32⟩
  | .hbm, ⟨70, _⟩ => ⟨S496, .i32⟩
  | .hbm, ⟨71, _⟩ => ⟨S496x1, .i32⟩
  | .hbm, ⟨72, _⟩ => ⟨S256x32, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_call3_v0 : Ref sig .tc := ⟨.hbm, 50, rfl⟩
abbrev main_call3_v1 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]
-- ==== Proof.KI.Names.lean ====
/-
  NAMES for the pieces of memory the kernel's hand-made transfers move between, and the closed forms of the offsets
  the counted loop computes.

  The kernel keeps block `j` of W2 (columns `256 j … 256 j + 255`) in slot `j % 2` of a two-slot buffer, copied in two
  halves (rows `0 … 7935` and `7936 … 15871`) on a semaphore each, and block `j` of Wout (rows `256 j …`) in slot
  `j % 2` of a second buffer. Half `h` of W2's block `b` is `wblk h b`, its landing place in slot `s` is `wslot s h`,
  its semaphore `wsem s h`; for Wout: `oblk b`, `oslot s`, `osem s`. `wfull s` is the whole slot `s` of W2's buffer,
  which the loop loads once both halves have landed.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI

/-! ## The arrays left in HBM and the scratch buffers -/

abbrev w1M : Memref sig .tc .hbm S512x15872 .f32 := Memref.whole main_arg1
abbrev w2M : Memref sig .tc .hbm S15872x15872 .f32 := Memref.whole main_arg3
abbrev woM : Memref sig .tc .hbm S15872x992 .f32 := Memref.whole main_arg5
abbrev hM : Memref sig .tc .vmem S256x15872 .bf16 := Memref.whole cc0_scratch0
abbrev wbufM : Memref sig .tc .vmem S2x15872x256 .f32 := Memref.whole cc0_scratch1
abbrev w1bufM : Memref sig .tc .vmem S1x512x3968 .f32 := Memref.whole cc0_scratch2
abbrev obufM : Memref sig .tc .vmem S2x256x992 .f32 := Memref.whole cc0_scratch3
abbrev accM : Memref sig .tc .vmem S256x992 .f32 := Memref.whole cc0_scratch4

/-! ## Offsets and windows -/

abbrev wblkOff (h : Fin 2) (b : Fin 62) : Fin 2 → Nat := ![7936 * h.val, 256 * b.val]
theorem wblkOff_inb (h : Fin 2) (b : Fin 62) : ∀ a, wblkOff h b a + S7936x256.size a ≤ S15872x15872.size a := by
  have := h.isLt; have := b.isLt; intro a; fin_cases a
  · show 7936 * h.val + 7936 ≤ 15872; omega
  · show 256 * b.val + 256 ≤ 15872; omega
abbrev wslotOff (s h : Fin 2) : Fin 3 → Nat := ![s.val, 7936 * h.val, 0]
theorem wslotOff_inb (s h : Fin 2) : ∀ a, wslotOff s h a + S1x7936x256.size a ≤ S2x15872x256.size a := by
  have := s.isLt; have := h.isLt; intro a; fin_cases a
  · show s.val + 1 ≤ 2; omega
  · show 7936 * h.val + 7936 ≤ 15872; omega
  · show 0 + 256 ≤ 256; omega
abbrev wfullOff (s : Fin 2) : Fin 3 → Nat := ![s.val, 0, 0]
theorem wfullOff_inb (s : Fin 2) : ∀ a, wfullOff s a + S1x15872x256.size a ≤ S2x15872x256.size a := by
  have := s.isLt; intro a; fin_cases a
  · show s.val + 1 ≤ 2; omega
  · show 0 + 15872 ≤ 15872; omega
  · show 0 + 256 ≤ 256; omega
abbrev wsemOff (s h : Fin 2) : Fin 2 → Nat := ![s.val, h.val]
theorem wsemOff_inb (s h : Fin 2) : ∀ a, wsemOff s h a + S1x1.size a ≤ S2x2.size a := by
  have := s.isLt; have := h.isLt; intro a; fin_cases a
  · show s.val + 1 ≤ 2; omega
  · show h.val + 1 ≤ 2; omega
abbrev oblkOff (b : Fin 62) : Fin 2 → Nat := ![256 * b.val, 0]
theorem oblkOff_inb (b : Fin 62) : ∀ a, oblkOff b a + S256x992.size a ≤ S15872x992.size a := by
  have := b.isLt; intro a; fin_cases a
  · show 256 * b.val + 256 ≤ 15872; omega
  · show 0 + 992 ≤ 992; omega
abbrev oslotOff (s : Fin 2) : Fin 3 → Nat := ![s.val, 0, 0]
theorem oslotOff_inb (s : Fin 2) : ∀ a, oslotOff s a + S1x256x992.size a ≤ S2x256x992.size a := by
  have := s.isLt; intro a; fin_cases a
  · show s.val + 1 ≤ 2; omega
  · show 0 + 256 ≤ 256; omega
  · show 0 + 992 ≤ 992; omega
abbrev osemOff (s : Fin 2) : Fin 1 → Nat := ![s.val]
theorem osemOff_inb (s : Fin 2) : ∀ a, osemOff s a + S1.size a ≤ S2.size a := by
  have := s.isLt; intro a; fin_cases a; show s.val + 1 ≤ 2; omega
abbrev b2Off (b : Fin 62) : Fin 3 → Nat := ![b.val, 0, 0]

/-- Half `h` of block `b` of W2. -/
def wblk (h : Fin 2) (b : Fin 62) : Memref sig .tc .hbm S7936x256 .f32 :=
  w2M.slice (Rect.unit (s := S15872x15872) (wblkOff h b) S7936x256.size (wblkOff_inb h b)) (fun _ => rfl)
/-- Where half `h` lands in slot `s`. -/
def wslot (s h : Fin 2) : Memref sig .tc .vmem S7936x256 .f32 :=
  (wbufM.slice (Rect.unit (s := S2x15872x256) (wslotOff s h) S1x7936x256.size (wslotOff_inb s h)) (fun _ => rfl)).squeeze S7936x256 squeezes_S1x7936x256_S7936x256
/-- The whole slot `s` of W2's buffer. -/
def wfull (s : Fin 2) : Memref sig .tc .vmem S1x15872x256 .f32 :=
  wbufM.slice (Rect.unit (s := S2x15872x256) (wfullOff s) S1x15872x256.size (wfullOff_inb s)) (fun _ => rfl)
/-- The semaphore half `h` of slot `s` is counted on. -/
def wsem (s h : Fin 2) : DmaSems sig S_ :=
  (cc0_scratch5.slice (Rect.unit (s := S2x2) (wsemOff s h) S1x1.size (wsemOff_inb s h))).squeeze S_ squeezes_S1x1_S_
/-- Block `b` of Wout. -/
def oblk (b : Fin 62) : Memref sig .tc .hbm S256x992 .f32 :=
  woM.slice (Rect.unit (s := S15872x992) (oblkOff b) S256x992.size (oblkOff_inb b)) (fun _ => rfl)
/-- Slot `s` of Wout's buffer. -/
def oslot (s : Fin 2) : Memref sig .tc .vmem S256x992 .f32 :=
  (obufM.slice (Rect.unit (s := S2x256x992) (oslotOff s) S1x256x992.size (oslotOff_inb s)) (fun _ => rfl)).squeeze S256x992 squeezes_S1x256x992_S256x992
/-- The semaphore slot `s` of Wout's buffer is counted on. -/
def osem (s : Fin 2) : DmaSems sig S_ :=
  (cc0_scratch7.slice (Rect.unit (s := S2) (osemOff s) S1.size (osemOff_inb s))).squeeze S_ squeezes_S1_S_

instance (s h : Fin 2) : ClosedOff (wslotOff s h) := ⟨wslotOff s h, rfl⟩
instance (s : Fin 2) : ClosedOff (wfullOff s) := ⟨wfullOff s, rfl⟩
instance (h : Fin 2) (b : Fin 62) : ClosedOff (wblkOff h b) := ⟨wblkOff h b, rfl⟩
instance (b : Fin 62) : ClosedOff (oblkOff b) := ⟨oblkOff b, rfl⟩

/-! ## The loop's offsets in closed form -/

section Chain

theorem trips_eq : k0_t1_loop.trips = 62 := by decide
theorem trip_lt (k : Fin k0_t1_loop.trips) : k.val < 62 := Nat.lt_of_lt_of_eq k.isLt trips_eq

/-- The condition that a next block is fetched, at trip `k`: `k + 1 < 62`. -/
theorem cond1_iff (k : Fin k0_t1_loop.trips) : k0_cond1 k = 1#1 ↔ k.val + 1 < 62 :=
  (show ∀ k : Fin k0_t1_loop.trips, k0_cond1 k = 1#1 ↔ k.val + 1 < 62 from by decide +kernel) k

/-- Slot numbers and block numbers of the loop's offset words, at every trip. -/
theorem offs_here : ∀ k : Fin k0_t1_loop.trips,
    k0_off10 k = wsemOff (Ring.sl 2 k.val) 0 ∧ k0_off11 k = wslotOff (Ring.sl 2 k.val) 0 ∧ k0_off12 k = wblkOff 0 (Ring.bk 62 k.val)
    ∧ k0_off13 k = wsemOff (Ring.sl 2 k.val) 1 ∧ k0_off14 k = wslotOff (Ring.sl 2 k.val) 1 ∧ k0_off15 k = wblkOff 1 (Ring.bk 62 k.val)
    ∧ k0_off16 k = wfullOff (Ring.sl 2 k.val) ∧ k0_off17 k = b2Off (Ring.bk 62 k.val)
    ∧ k0_off18 k = osemOff (Ring.sl 2 k.val) ∧ k0_off19 k = oslotOff (Ring.sl 2 k.val) ∧ k0_off20 k = oblkOff (Ring.bk 62 k.val)
    ∧ k0_off21 k = oslotOff (Ring.sl 2 k.val) := by decide +kernel
theorem offs_next : ∀ k : Fin k0_t1_loop.trips, k.val + 1 < 62 →
    k0_off1 k = wsemOff (Ring.sl 2 (k.val + 1)) 0 ∧ k0_off2 k = wslotOff (Ring.sl 2 (k.val + 1)) 0 ∧ k0_off3 k = wblkOff 0 (Ring.bk 62 (k.val + 1))
    ∧ k0_off4 k = wsemOff (Ring.sl 2 (k.val + 1)) 1 ∧ k0_off5 k = wslotOff (Ring.sl 2 (k.val + 1)) 1 ∧ k0_off6 k = wblkOff 1 (Ring.bk 62 (k.val + 1))
    ∧ k0_off7 k = osemOff (Ring.sl 2 (k.val + 1)) ∧ k0_off8 k = oslotOff (Ring.sl 2 (k.val + 1)) ∧ k0_off9 k = oblkOff (Ring.bk 62 (k.val + 1)) := by
  decide +kernel

theorem off16_eq (k : Fin k0_t1_loop.trips) : k0_off16 k = wfullOff (Ring.sl 2 k.val) := (offs_here k).2.2.2.2.2.2.1
theorem off17_eq (k : Fin k0_t1_loop.trips) : k0_off17 k = b2Off (Ring.bk 62 k.val) := (offs_here k).2.2.2.2.2.2.2.1
theorem off21_eq (k : Fin k0_t1_loop.trips) : k0_off21 k = oslotOff (Ring.sl 2 k.val) := (offs_here k).2.2.2.2.2.2.2.2.2.2.2

instance (k : Fin k0_t1_loop.trips) : ClosedOff (k0_off16 k) := ⟨wfullOff (Ring.sl 2 k.val), off16_eq k⟩
instance (k : Fin k0_t1_loop.trips) : ClosedOff (k0_off21 k) := ⟨oslotOff (Ring.sl 2 k.val), off21_eq k⟩

end Chain

/-! ## The body's slices are the named ones -/

section Canon

theorem wsem_congr {off : Fin 2 → Nat} {s h : Fin 2} (e : off = wsemOff s h) (hh) :
    (cc0_scratch5.slice (Rect.unit (s := S2x2) off S1x1.size hh)).squeeze S_ squeezes_S1x1_S_ = wsem s h :=
  congrArg (fun A : DmaSems sig S1x1 => A.squeeze S_ squeezes_S1x1_S_) (SemArray.slice_unit_congr _ e _ _)
theorem osem_congr {off : Fin 1 → Nat} {s : Fin 2} (e : off = osemOff s) (hh) :
    (cc0_scratch7.slice (Rect.unit (s := S2) off S1.size hh)).squeeze S_ squeezes_S1_S_ = osem s :=
  congrArg (fun A : DmaSems sig S1 => A.squeeze S_ squeezes_S1_S_) (SemArray.slice_unit_congr _ e _ _)
theorem wslot_congr {off : Fin 3 → Nat} {s h : Fin 2} (e : off = wslotOff s h) (hh hs) :
    (wbufM.slice (Rect.unit (s := S2x15872x256) off S1x7936x256.size hh) hs).squeeze S7936x256 squeezes_S1x7936x256_S7936x256 = wslot s h :=
  congrArg (fun M : Memref sig .tc .vmem S1x7936x256 .f32 => M.squeeze S7936x256 squeezes_S1x7936x256_S7936x256) (Memref.slice_unit_congr _ e _ _ _ _)
theorem oslot_congr {off : Fin 3 → Nat} {s : Fin 2} (e : off = oslotOff s) (hh hs) :
    (obufM.slice (Rect.unit (s := S2x256x992) off S1x256x992.size hh) hs).squeeze S256x992 squeezes_S1x256x992_S256x992 = oslot s :=
  congrArg (fun M : Memref sig .tc .vmem S1x256x992 .f32 => M.squeeze S256x992 squeezes_S1x256x992_S256x992) (Memref.slice_unit_congr _ e _ _ _ _)
theorem wblk_congr {off : Fin 2 → Nat} {h : Fin 2} {b : Fin 62} (e : off = wblkOff h b) (hh hs) :
    w2M.slice (Rect.unit (s := S15872x15872) off S7936x256.size hh) hs = wblk h b := Memref.slice_unit_congr _ e _ _ _ (fun _ => rfl)
theorem oblk_congr {off : Fin 2 → Nat} {b : Fin 62} (e : off = oblkOff b) (hh hs) :
    woM.slice (Rect.unit (s := S15872x992) off S256x992.size hh) hs = oblk b := Memref.slice_unit_congr _ e _ _ _ (fun _ => rfl)

/-- The prologue's literal slices: slot 0, block 0. -/
@[sl_canon] theorem wsemL0 (hh) : (cc0_scratch5.slice (Rect.unit (s := S2x2) ![0, 0] S1x1.size hh)).squeeze S_ squeezes_S1x1_S_ = wsem 0 0 := wsem_congr (by decide) _
@[sl_canon] theorem wsemL1 (hh) : (cc0_scratch5.slice (Rect.unit (s := S2x2) ![0, 1] S1x1.size hh)).squeeze S_ squeezes_S1x1_S_ = wsem 0 1 := wsem_congr (by decide) _
@[sl_canon] theorem osemL (hh) : (cc0_scratch7.slice (Rect.unit (s := S2) ![0] S1.size hh)).squeeze S_ squeezes_S1_S_ = osem 0 := osem_congr (by decide) _
@[sl_canon] theorem wslotL0 (hh hs) : (wbufM.slice (Rect.unit (s := S2x15872x256) ![0, 0, 0] S1x7936x256.size hh) hs).squeeze S7936x256 squeezes_S1x7936x256_S7936x256 = wslot 0 0 := wslot_congr (by decide) _ _
@[sl_canon] theorem wslotL1 (hh hs) : (wbufM.slice (Rect.unit (s := S2x15872x256) ![0, 7936, 0] S1x7936x256.size hh) hs).squeeze S7936x256 squeezes_S1x7936x256_S7936x256 = wslot 0 1 := wslot_congr (by decide) _ _
@[sl_canon] theorem oslotL (hh hs) : (obufM.slice (Rect.unit (s := S2x256x992) ![0, 0, 0] S1x256x992.size hh) hs).squeeze S256x992 squeezes_S1x256x992_S256x992 = oslot 0 := oslot_congr (by decide) _ _
@[sl_canon] theorem wblkL0 (hh hs) : w2M.slice (Rect.unit (s := S15872x15872) ![0, 0] S7936x256.size hh) hs = wblk 0 0 := wblk_congr (by decide) _ _
@[sl_canon] theorem wblkL1 (hh hs) : w2M.slice (Rect.unit (s := S15872x15872) ![7936, 0] S7936x256.size hh) hs = wblk 1 0 := wblk_congr (by decide) _ _
@[sl_canon] theorem oblkL (hh hs) : woM.slice (Rect.unit (s := S15872x992) ![0, 0] S256x992.size hh) hs = oblk 0 := oblk_congr (by decide) _ _

/-- Trip `k`'s waits: slot `k % 2`, block `k`. -/
@[sl_canon] theorem wsemW0 (k : Fin k0_t1_loop.trips) (hh) : (cc0_scratch5.slice (Rect.unit (s := S2x2) (k0_off10 k) S1x1.size hh)).squeeze S_ squeezes_S1x1_S_ = wsem (Ring.sl 2 k.val) 0 := wsem_congr (offs_here k).1 _
@[sl_canon] theorem wslotW0 (k : Fin k0_t1_loop.trips) (hh hs) : (wbufM.slice (Rect.unit (s := S2x15872x256) (k0_off11 k) S1x7936x256.size hh) hs).squeeze S7936x256 squeezes_S1x7936x256_S7936x256 = wslot (Ring.sl 2 k.val) 0 := wslot_congr (offs_here k).2.1 _ _
@[sl_canon] theorem wblkW0 (k : Fin k0_t1_loop.trips) (hh hs) : w2M.slice (Rect.unit (s := S15872x15872) (k0_off12 k) S7936x256.size hh) hs = wblk 0 (Ring.bk 62 k.val) := wblk_congr (offs_here k).2.2.1 _ _
@[sl_canon] theorem wsemW1 (k : Fin k0_t1_loop.trips) (hh) : (cc0_scratch5.slice (Rect.unit (s := S2x2) (k0_off13 k) S1x1.size hh)).squeeze S_ squeezes_S1x1_S_ = wsem (Ring.sl 2 k.val) 1 := wsem_congr (offs_here k).2.2.2.1 _
@[sl_canon] theorem wslotW1 (k : Fin k0_t1_loop.trips) (hh hs) : (wbufM.slice (Rect.unit (s := S2x15872x256) (k0_off14 k) S1x7936x256.size hh) hs).squeeze S7936x256 squeezes_S1x7936x256_S7936x256 = wslot (Ring.sl 2 k.val) 1 := wslot_congr (offs_here k).2.2.2.2.1 _ _
@[sl_canon] theorem wblkW1 (k : Fin k0_t1_loop.trips) (hh hs) : w2M.slice (Rect.unit (s := S15872x15872) (k0_off15 k) S7936x256.size hh) hs = wblk 1 (Ring.bk 62 k.val) := wblk_congr (offs_here k).2.2.2.2.2.1 _ _
@[sl_canon] theorem osemW (k : Fin k0_t1_loop.trips) (hh) : (cc0_scratch7.slice (Rect.unit (s := S2) (k0_off18 k) S1.size hh)).squeeze S_ squeezes_S1_S_ = osem (Ring.sl 2 k.val) := osem_congr (offs_here k).2.2.2.2.2.2.2.2.1 _
@[sl_canon] theorem oslotW (k : Fin k0_t1_loop.trips) (hh hs) : (obufM.slice (Rect.unit (s := S2x256x992) (k0_off19 k) S1x256x992.size hh) hs).squeeze S256x992 squeezes_S1x256x992_S256x992 = oslot (Ring.sl 2 k.val) := oslot_congr (offs_here k).2.2.2.2.2.2.2.2.2.1 _ _
@[sl_canon] theorem oblkW (k : Fin k0_t1_loop.trips) (hh hs) : woM.slice (Rect.unit (s := S15872x992) (k0_off20 k) S256x992.size hh) hs = oblk (Ring.bk 62 k.val) := oblk_congr (offs_here k).2.2.2.2.2.2.2.2.2.2.1 _ _

/-- Trip `k`'s copies, when there is a next block: slot `(k + 1) % 2`, block `k + 1`. -/
@[sl_canon] theorem wsemI0 (k : Fin k0_t1_loop.trips) (hk : k.val + 1 < 62) (hh) : (cc0_scratch5.slice (Rect.unit (s := S2x2) (k0_off1 k) S1x1.size hh)).squeeze S_ squeezes_S1x1_S_ = wsem (Ring.sl 2 (k.val + 1)) 0 := wsem_congr (offs_next k hk).1 _
@[sl_canon] theorem wslotI0 (k : Fin k0_t1_loop.trips) (hk : k.val + 1 < 62) (hh hs) : (wbufM.slice (Rect.unit (s := S2x15872x256) (k0_off2 k) S1x7936x256.size hh) hs).squeeze S7936x256 squeezes_S1x7936x256_S7936x256 = wslot (Ring.sl 2 (k.val + 1)) 0 := wslot_congr (offs_next k hk).2.1 _ _
@[sl_canon] theorem wblkI0 (k : Fin k0_t1_loop.trips) (hk : k.val + 1 < 62) (hh hs) : w2M.slice (Rect.unit (s := S15872x15872) (k0_off3 k) S7936x256.size hh) hs = wblk 0 (Ring.bk 62 (k.val + 1)) := wblk_congr (offs_next k hk).2.2.1 _ _
@[sl_canon] theorem wsemI1 (k : Fin k0_t1_loop.trips) (hk : k.val + 1 < 62) (hh) : (cc0_scratch5.slice (Rect.unit (s := S2x2) (k0_off4 k) S1x1.size hh)).squeeze S_ squeezes_S1x1_S_ = wsem (Ring.sl 2 (k.val + 1)) 1 := wsem_congr (offs_next k hk).2.2.2.1 _
@[sl_canon] theorem wslotI1 (k : Fin k0_t1_loop.trips) (hk : k.val + 1 < 62) (hh hs) : (wbufM.slice (Rect.unit (s := S2x15872x256) (k0_off5 k) S1x7936x256.size hh) hs).squeeze S7936x256 squeezes_S1x7936x256_S7936x256 = wslot (Ring.sl 2 (k.val + 1)) 1 := wslot_congr (offs_next k hk).2.2.2.2.1 _ _
@[sl_canon] theorem wblkI1 (k : Fin k0_t1_loop.trips) (hk : k.val + 1 < 62) (hh hs) : w2M.slice (Rect.unit (s := S15872x15872) (k0_off6 k) S7936x256.size hh) hs = wblk 1 (Ring.bk 62 (k.val + 1)) := wblk_congr (offs_next k hk).2.2.2.2.2.1 _ _
@[sl_canon] theorem osemI (k : Fin k0_t1_loop.trips) (hk : k.val + 1 < 62) (hh) : (cc0_scratch7.slice (Rect.unit (s := S2) (k0_off7 k) S1.size hh)).squeeze S_ squeezes_S1_S_ = osem (Ring.sl 2 (k.val + 1)) := osem_congr (offs_next k hk).2.2.2.2.2.2.1 _
@[sl_canon] theorem oslotI (k : Fin k0_t1_loop.trips) (hk : k.val + 1 < 62) (hh hs) : (obufM.slice (Rect.unit (s := S2x256x992) (k0_off8 k) S1x256x992.size hh) hs).squeeze S256x992 squeezes_S1x256x992_S256x992 = oslot (Ring.sl 2 (k.val + 1)) := oslot_congr (offs_next k hk).2.2.2.2.2.2.2.1 _ _
@[sl_canon] theorem oblkI (k : Fin k0_t1_loop.trips) (hk : k.val + 1 < 62) (hh hs) : woM.slice (Rect.unit (s := S15872x992) (k0_off9 k) S256x992.size hh) hs = oblk (Ring.bk 62 (k.val + 1)) := oblk_congr (offs_next k hk).2.2.2.2.2.2.2.2 _ _

end Canon

end Cert.Proof.KI

end
-- ==== Proof.KI.Trip.lean ====
/-
  ONE TRIP of the counted loop over the blocks of W2 and Wout: what is held before trip `k` (`resAt`), and that the trip,
  run on it, leaves what is held before trip `k + 1` with the accumulator moved on by `stepV`.
-/
module

public import proofs.«01_k».proof.Proof.KI.Names
public import Idealize.ShloMosaic.Lib.VecWindow
public import Idealize.ShloMosaic.Lib.Pipeline.Value
public import Idealize.ShloMosaic.Lib.ValueIdxCore

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces
variable (c : Dev nD) (X2 : Buf (Elt F) (w2M.view.loc (c : Thread nD τ))) (XO : Buf (Elt F) (woM.view.loc (c : Thread nD τ)))

abbrev wcellP (s h : Fin 2) : sProp 𝕄 := semVal ((c : Thread nD τ), SemLoc.dma (wsem s h).sem) 0
abbrev ocellP (s : Fin 2) : sProp 𝕄 := semVal ((c : Thread nD τ), SemLoc.dma (osem s).sem) 0
abbrev wslotP (s h : Fin 2) (f : Buf (Elt F) ((wslot s h).view.loc (c : Thread nD τ))) : sProp 𝕄 :=
  (wslot s h).view.loc (c : Thread nD τ) ↦[(wslot s h).view.set]{fullShare} f
abbrev wfullP (s : Fin 2) (f : Buf (Elt F) ((wfull s).view.loc (c : Thread nD τ))) : sProp 𝕄 :=
  (wfull s).view.loc (c : Thread nD τ) ↦[(wfull s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev whomeP (h : Fin 2) (b : Fin 62) : sProp 𝕄 := (wblk h b).view.loc (c : Thread nD τ) ↦[(wblk h b).view.set]{fullShare} X2
abbrev ohomeP (b : Fin 62) : sProp 𝕄 := (oblk b).view.loc (c : Thread nD τ) ↦[(oblk b).view.set]{fullShare} XO

abbrev wpay (h : Fin 2) (b : Fin 62) : S7936x256.Idx → Elt F .f32 := ReadAs.same.apply ((wblk h b).view.read (Elt F) X2)
abbrev opay (b : Fin 62) : S256x992.Idx → Elt F .f32 := ReadAs.same.apply ((oblk b).view.read (Elt F) XO)
abbrev wland (s h : Fin 2) (b : Fin 62) (f : Buf (Elt F) ((wslot s h).view.loc (c : Thread nD τ))) : Buf (Elt F) ((wslot s h).view.loc (c : Thread nD τ)) :=
  (wslot s h).view.writes (Elt F) f [⟨Rect.whole S7936x256, wpay c X2 h b⟩]
abbrev oland (s : Fin 2) (b : Fin 62) (f : Buf (Elt F) ((oslot s).view.loc (c : Thread nD τ))) : Buf (Elt F) ((oslot s).view.loc (c : Thread nD τ)) :=
  (oslot s).view.writes (Elt F) f [⟨Rect.whole S256x992, opay c XO b⟩]
/-- The units a transfer moves on its semaphore. -/
abbrev WN : ℕ := 253952
abbrev ON : ℕ := 32768
abbrev wflyP (s h : Fin 2) (b : Fin 62) (f : Buf (Elt F) ((wslot s h).view.loc (c : Thread nD τ))) : sProp 𝕄 :=
  Transfers.Flight countersEmb (c : Thread nD τ) (SemLoc.dma (wsem s h).sem) () WN iprop(wslotP c s h (wland c X2 s h b f) ∗ whomeP c X2 h b)
abbrev oflyP (s : Fin 2) (b : Fin 62) (f : Buf (Elt F) ((oslot s).view.loc (c : Thread nD τ))) : sProp 𝕄 :=
  Transfers.Flight countersEmb (c : Thread nD τ) (SemLoc.dma (osem s).sem) () ON iprop(oslotP c s (oland c XO s b f) ∗ ohomeP c XO b)

/-- Slot `s` in flight with block `b`: two halves of W2, one of Wout. -/
def FLY (s : Fin 2) (b : Fin 62) : sProp 𝕄 :=
  iprop((∃ f, wflyP c X2 s 0 b f) ∗ (∃ f, wflyP c X2 s 1 b f) ∗ (∃ f, oflyP c XO s b f))
/-- Slot `s` free. -/
def FREE (s : Fin 2) : sProp 𝕄 :=
  iprop(((∃ f, wslotP c s 0 f) ∗ (∃ f, wslotP c s 1 f) ∗ (∃ f, oslotP c s f)) ∗ wcellP (F := F) c s 0 ∗ wcellP (F := F) c s 1 ∗ ocellP (F := F) c s)
/-- The blocks of W2 and Wout at home before trip `k`. -/
def HOMES (k : ℕ) : sProp 𝕄 :=
  iprop(bigSep (Ring.homeSet 1 k) (whomeP c X2 0) ∗ bigSep (Ring.homeSet 1 k) (whomeP c X2 1) ∗ bigSep (Ring.homeSet 1 k) (ohomeP c XO))

end Pieces

/-! ## The two halves of a landed block are the block -/

section Join
variable (c : Dev nD) (X2 : Buf (Elt F) (w2M.view.loc (c : Thread nD τ)))

/-- W2's buffer with block `b` in it (in whichever slot it is read). -/
def wC (b : Fin 62) : Buf (Elt F) (wbufM.view.loc (c : Thread nD τ)) :=
  fun y : S2x15872x256.Idx => X2 (ix2 (n0 := 15872) (n1 := 15872) (y 1) ⟨256 * b.val + (y 2).val, by have := b.isLt; have : (y 2).val < 256 := (y 2).isLt; omega⟩)

theorem wslot_read_wC (s h : Fin 2) (b : Fin 62) : (wslot s h).view.read (Elt F) (wC c X2 b) = wpay c X2 h b := by
  funext x
  unfold wslot
  refine (congrFun (Memref.read_squeeze_slice wbufM (Rect.unit (s := S2x15872x256) (wslotOff s h) S1x7936x256.size (wslotOff_inb s h)) (fun _ => rfl)
    squeezes_S1x7936x256_S7936x256 (Shape.Squeezes.numel_eq squeezes_S1x7936x256_S7936x256) (wC c X2 b)) x).trans ?_
  refine (shapeCast_dropUnit_apply (n := 2) ![7936, 256] _ _ x).trans ?_
  show X2 _ = X2 _
  congr 1
  funext a
  apply Fin.ext
  fin_cases a
  · show 7936 * h.val + 1 * (x 0).val = 7936 * h.val + 1 * (x 0).val
    rfl
  · show 256 * b.val + (0 + 1 * (x 1).val) = 256 * b.val + 1 * (x 1).val
    omega

theorem wslot_land (s h : Fin 2) (b : Fin 62) (f) : (wslotP c s h (wland c X2 s h b f) : sProp 𝕄) = wslotP c s h (wC c X2 b) := by
  have : ∀ e, Nonempty (Elt F e) := fun e => inferInstance
  have e1 := pointsTo_rep (c : Thread nD τ) (wslot s h) (wC c X2 b) fullShare (Ix := Unit) (Name := ℕ) (U := UU nD τ) (Lvl := ℕ)
  rw [wslot_read_wC c X2 s h b] at e1
  have e2 := pointsTo_rep (c : Thread nD τ) (wslot s h) (wland c X2 s h b f) fullShare (Ix := Unit) (Name := ℕ) (U := UU nD τ) (Lvl := ℕ)
  rw [View.read_writes_whole] at e2
  exact e2.trans e1.symm

theorem wslot_set (s h : Fin 2) : (wslot s h).view.set = (Rect.unit (s := S2x15872x256) (wslotOff s h) S1x7936x256.size (wslotOff_inb s h)).set :=
  (View.set_reshape _ _).trans (View.set_slice_whole _ _)
theorem wfull_set (s : Fin 2) : (wfull s).view.set = (Rect.unit (s := S2x15872x256) (wfullOff s) S1x15872x256.size (wfullOff_inb s)).set :=
  View.set_slice_whole _ _

theorem mem_wslot (s h : Fin 2) (i : S2x15872x256.Idx) : i ∈ (wslot s h).view.set ↔ (i 0).val = s.val ∧ 7936 * h.val ≤ (i 1).val ∧ (i 1).val < 7936 * h.val + 7936 := by
  refine (Eq.to_iff (congrArg (fun S : Finset S2x15872x256.Idx => i ∈ S) (wslot_set s h))).trans (Rect.mem_set_unit.trans ?_)
  have h2 : (i 2).val < 256 := (i 2).isLt
  constructor
  · intro H
    have a0 : s.val ≤ (i 0).val ∧ (i 0).val < s.val + 1 := H 0
    have a1 : 7936 * h.val ≤ (i 1).val ∧ (i 1).val < 7936 * h.val + 7936 := H 1
    omega
  · rintro ⟨a0, a1⟩ a
    fin_cases a
    · show s.val ≤ (i 0).val ∧ (i 0).val < s.val + 1; omega
    · show 7936 * h.val ≤ (i 1).val ∧ (i 1).val < 7936 * h.val + 7936; omega
    · show 0 ≤ (i 2).val ∧ (i 2).val < 0 + 256; omega
theorem mem_wfull (s : Fin 2) (i : S2x15872x256.Idx) : i ∈ (wfull s).view.set ↔ (i 0).val = s.val := by
  refine (Eq.to_iff (congrArg (fun S : Finset S2x15872x256.Idx => i ∈ S) (wfull_set s))).trans (Rect.mem_set_unit.trans ?_)
  have h1 : (i 1).val < 15872 := (i 1).isLt
  have h2 : (i 2).val < 256 := (i 2).isLt
  constructor
  · intro H
    have a0 : s.val ≤ (i 0).val ∧ (i 0).val < s.val + 1 := H 0
    omega
  · rintro a0 a
    fin_cases a
    · show s.val ≤ (i 0).val ∧ (i 0).val < s.val + 1; omega
    · show 0 ≤ (i 1).val ∧ (i 1).val < 0 + 15872; omega
    · show 0 ≤ (i 2).val ∧ (i 2).val < 0 + 256; omega

/-- The elements of a half, as indices of the buffer. -/
abbrev wset (s h : Fin 2) : Finset S2x15872x256.Idx := (wslot s h).view.set
theorem wslot_disj (s : Fin 2) (h h' : Fin 2) (ne : h ≠ h') : Disjoint (wset s h) (wset s h') := by
  refine Finset.disjoint_left.2 ?_
  intro i hi hj
  have a := (mem_wslot s h i).1 hi
  have b := (mem_wslot s h' i).1 hj
  exact ne (Fin.ext (by omega))
theorem wslot_cover (s : Fin 2) : Finset.univ.biUnion (wset s) = (show Finset S2x15872x256.Idx from (wfull s).view.set) := by
  refine Finset.ext fun i : S2x15872x256.Idx => ?_
  have h1 : (i 1).val < 15872 := (i 1).isLt
  refine Finset.mem_biUnion.trans ?_
  refine Iff.trans ?_ (mem_wfull s i).symm
  constructor
  · rintro ⟨h, -, hi⟩; exact ((mem_wslot s h i).1 hi).1
  · intro h0
    by_cases hh : (i 1).val < 7936
    · exact ⟨0, Finset.mem_univ _, (mem_wslot s 0 i).2 ⟨h0, by show 7936 * 0 ≤ _; omega, by show _ < 7936 * 0 + 7936; omega⟩⟩
    · exact ⟨1, Finset.mem_univ _, (mem_wslot s 1 i).2 ⟨h0, by show 7936 * 1 ≤ _; omega, by show _ < 7936 * 1 + 7936; omega⟩⟩

/-- A slot of W2's buffer is its two halves. -/
theorem wfull_split (s : Fin 2) (f : Buf (Elt F) (wbufM.view.loc (c : Thread nD τ))) :
    (wfullP c s f : sProp 𝕄) = iprop(wslotP c s 0 f ∗ wslotP c s 1 f) := by
  refine (Ring.pointsTo_sub_blocks (I := wset s) (wslot_disj s) _ (wslot_cover s) f).trans ?_
  exact Ring.bigSep_fin2 _

theorem wjoin (s : Fin 2) (b : Fin 62) (f0 f1) :
    iprop(wslotP c s 0 (wland c X2 s 0 b f0) ∗ wslotP c s 1 (wland c X2 s 1 b f1)) ⊢ (wfullP c s (wC c X2 b) : sProp 𝕄) := by
  rw [wslot_land, wslot_land]
  exact entails_of_eq (wfull_split c s _).symm
theorem wsplit (s : Fin 2) (f : Buf (Elt F) (wbufM.view.loc (c : Thread nD τ))) :
    (wfullP c s f : sProp 𝕄) ⊢ iprop((∃ f, wslotP c s 0 f) ∗ (∃ f, wslotP c s 1 f)) := by
  rw [wfull_split]
  iintro ⟨H0, H1⟩
  isplitl [H0]
  · iexists f; iexact H0
  · iexists f; iexact H1

end Join

section Trip
variable (c : Dev nD) (X2 : Buf (Elt F) (w2M.view.loc (c : Thread nD τ))) (XO : Buf (Elt F) (woM.view.loc (c : Thread nD τ)))
  (arg0 : Memref sig .tc .vmem S256x512 .f32) (harg0 : arg0.IsWhole)
  (arg1 : Memref sig .tc .hbm S512x15872 .f32) (harg1 : arg1.IsWhole)
  (arg2 : Memref sig .tc .vmem S4x1x3968 .f32) (harg2 : arg2.IsWhole)
  (arg4 : Memref sig .tc .vmem S62x1x256 .f32) (harg4 : arg4.IsWhole)
  (arg6 : Memref sig .tc .vmem S992x32 .f32) (harg6 : arg6.IsWhole)
  (arg7 : Memref sig .tc .vmem S1x992 .f32) (harg7 : arg7.IsWhole)
  (arg8 : Memref sig .tc .vmem S256x32 .f32) (harg8 : arg8.IsWhole)
  (arg9 : Memref sig .tc .vmem S256x15872 .bf16) (harg9 : arg9.IsWhole)
  (arg11 : Memref sig .tc .vmem S1x512x3968 .f32) (harg11 : arg11.IsWhole)
  (arg13 : Memref sig .tc .vmem S256x992 .f32) (harg13 : arg13.IsWhole)

abbrev tripsG : Fin k0_t1_loop.trips → Unit → Prog (TpuEff nD τ sig (Elt F) Λ₀ .tc) Unit :=
  k0_t1_body (F := F) arg0 harg0 arg1 harg1 arg2 harg2 w2M (Memref.isWhole_whole _) arg4 harg4 woM (Memref.isWhole_whole _)
    arg6 harg6 arg7 harg7 arg8 harg8 arg9 harg9 wbufM (Memref.isWhole_whole _) arg11 harg11
    obufM (Memref.isWhole_whole _) arg13 harg13 cc0_scratch5 cc0_scratch6 cc0_scratch7
abbrev tripG (k : Fin k0_t1_loop.trips) : Prog (TpuEff nD τ sig (Elt F) Λ₀ .tc) Unit :=
  k0_t1_body (F := F) arg0 harg0 arg1 harg1 arg2 harg2 w2M (Memref.isWhole_whole _) arg4 harg4 woM (Memref.isWhole_whole _)
    arg6 harg6 arg7 harg7 arg8 harg8 arg9 harg9 wbufM (Memref.isWhole_whole _) arg11 harg11
    obufM (Memref.isWhole_whole _) arg13 harg13 cc0_scratch5 cc0_scratch6 cc0_scratch7 k ()

/-! ### The values a trip works on -/

/-- Block `b` of W2 as the loop loads it from its slot. -/
def wV (b : Fin 62) : S1x15872x256.Idx → Elt F .f32 :=
  fun y => X2 (ix2 (n0 := 15872) (n1 := 15872) (y 1) ⟨256 * b.val + (y 2).val, by have := b.isLt; have : (y 2).val < 256 := (y 2).isLt; omega⟩)
/-- Block `b` of Wout as the loop loads it from its slot. -/
def oV (b : Fin 62) : S1x256x992.Idx → Elt F .f32 :=
  fun y => XO (ix2 (n0 := 15872) (n1 := 992) ⟨256 * b.val + (y 1).val, by have := b.isLt; have : (y 1).val < 256 := (y 1).isLt; omega⟩ (y 2))
/-- Block `b` of b2. -/
def bV (B : S62x1x256.Idx → Elt F .f32) (b : Fin 62) : S1x1x256.Idx → Elt F .f32 := fun y => B (ix3 (n0 := 62) (n1 := 1) (n2 := 256) b (y 1) (y 2))
/-- The accumulator after trip `k`, from the hidden layer `H`, b2 and the accumulator before it. -/
def stepV (H : S256x15872.Idx → Elt F .bf16) (B : S62x1x256.Idx → Elt F .f32) (k : ℕ) (a : S256x992.Idx → Elt F .f32) : S256x992.Idx → Elt F .f32 :=
  k0_pay2 (F := F) (k0_pay4 H (wV c X2 (Ring.bk 62 k)) (bV B (Ring.bk 62 k))) a (oV c XO (Ring.bk 62 k))

theorem read_w16 (k : Fin k0_t1_loop.trips) (hh) :
    wbufM.view.readAt (Elt F) (Rect.unit (s := S2x15872x256) (k0_off16 k) S1x15872x256.size hh).toLoadRect (wC c X2 (Ring.bk 62 k.val)) = wV c X2 (Ring.bk 62 k.val) := by
  refine (View.readAt_unit_congr _ (off16_eq k) hh (wfullOff_inb _) _).trans ?_
  funext y
  show X2 _ = X2 _
  congr 1
  funext a
  apply Fin.ext
  fin_cases a
  · show 0 + 1 * (y 1).val = (y 1).val
    omega
  · show 256 * (Ring.bk 62 k.val).val + (0 + 1 * (y 2).val) = 256 * (Ring.bk 62 k.val).val + (y 2).val
    omega
theorem read_b17 (fB : Buf (Elt F) (arg4.view.loc (c : Thread nD τ))) (k : Fin k0_t1_loop.trips) (hh) :
    arg4.view.readAt (Elt F) (Rect.unit (s := S62x1x256) (k0_off17 k) S1x1x256.size hh).toLoadRect fB = bV (arg4.view.read (Elt F) fB) (Ring.bk 62 k.val) := by
  have inb : ∀ a, b2Off (Ring.bk 62 k.val) a + S1x1x256.size a ≤ S62x1x256.size a := off17_eq k ▸ hh
  refine (View.readAt_unit_congr _ (off17_eq k) hh inb _).trans ?_
  funext y
  show arg4.view.read (Elt F) fB _ = arg4.view.read (Elt F) fB _
  congr 1
  funext a
  apply Fin.ext
  have h0 : (y 0).val = 0 := by have : (y 0).val < 1 := (y 0).isLt; omega
  fin_cases a
  · show (Ring.bk 62 k.val).val + 1 * (y 0).val = (Ring.bk 62 k.val).val
    omega
  · show 0 + 1 * (y 1).val = (y 1).val
    omega
  · show 0 + 1 * (y 2).val = (y 2).val
    omega
/-- A slot of Wout's buffer read through the whole buffer is the slot read by itself. -/
theorem read_oslot (s : Fin 2) (f : Buf (Elt F) (obufM.view.loc (c : Thread nD τ))) (y : S1x256x992.Idx) :
    obufM.view.readAt (Elt F) (Rect.unit (s := S2x256x992) (oslotOff s) S1x256x992.size (oslotOff_inb s)).toLoadRect f y
      = (oslot s).view.read (Elt F) f (ix2 (n0 := 256) (n1 := 992) (y 1) (y 2)) := by
  have h0 : (Fin.cons ⟨0, Nat.one_pos⟩ (ix2 (n0 := 256) (n1 := 992) (y 1) (y 2)) : S1x256x992.Idx) = y := by
    funext a
    apply Fin.ext
    have h0 : (y 0).val = 0 := by have : (y 0).val < 1 := (y 0).isLt; omega
    fin_cases a
    · exact h0.symm
    · rfl
    · rfl
  unfold oslot
  refine Eq.symm ((congrFun (Memref.read_squeeze_slice obufM (Rect.unit (s := S2x256x992) (oslotOff s) S1x256x992.size (oslotOff_inb s)) (fun _ => rfl)
    squeezes_S1x256x992_S256x992 (Shape.Squeezes.numel_eq squeezes_S1x256x992_S256x992) f) (ix2 (n0 := 256) (n1 := 992) (y 1) (y 2))).trans ?_)
  refine (shapeCast_dropUnit_apply (n := 2) ![256, 992] _ _ (ix2 (n0 := 256) (n1 := 992) (y 1) (y 2))).trans ?_
  exact congrArg _ h0
theorem opay_apply (b : Fin 62) (i : Fin 256) (j : Fin 992) :
    opay c XO b (ix2 (n0 := 256) (n1 := 992) i j) = XO (ix2 (n0 := 15872) (n1 := 992) ⟨256 * b.val + i.val, by have := b.isLt; have := i.isLt; omega⟩ j) := by
  show XO _ = XO _
  congr 1
  funext a
  apply Fin.ext
  fin_cases a
  · show 256 * b.val + 1 * i.val = 256 * b.val + i.val
    omega
  · show 0 + 1 * j.val = j.val
    omega
theorem read_o21 (k : Fin k0_t1_loop.trips) (f) (hh) :
    obufM.view.readAt (Elt F) (Rect.unit (s := S2x256x992) (k0_off21 k) S1x256x992.size hh).toLoadRect (oland c XO (Ring.sl 2 k.val) (Ring.bk 62 k.val) f) = oV c XO (Ring.bk 62 k.val) := by
  refine (View.readAt_unit_congr _ (off21_eq k) hh (oslotOff_inb _) _).trans ?_
  funext y
  refine (read_oslot c _ _ y).trans ?_
  have e : (oslot (Ring.sl 2 k.val)).view.read (Elt F) (oland c XO (Ring.sl 2 k.val) (Ring.bk 62 k.val) f) = opay c XO (Ring.bk 62 k.val) := View.read_writes_whole _ _ _
  exact (congrFun e _).trans (opay_apply c XO _ _ _)

/-- A whole store read back, the store at offset zero. -/
theorem read_writes_unit_zero {κ : Kind} {sp : Space} {t : Shape} {e : EltTy} (v : View sig κ sp t e) {off : Fin t.rank → Nat}
    (h : off = fun _ => 0) (inb : ∀ a, off a + t.size a ≤ t.size a) (f : v.ty.Contents (Elt F)) (w : t.Idx → Elt F e) :
    v.read (Elt F) (v.writes (Elt F) f [⟨Rect.unit off t.size inb, w⟩]) = w := by
  subst h
  exact View.read_writes_whole v f w

abbrev R00 : Rect S256x992 := Rect.unit (s := S256x992) ![0, 0] S256x992.size inb_S256x992_S256x992_0_0

abbrev accP (f : Buf (Elt F) (arg13.view.loc (c : Thread nD τ))) : sProp 𝕄 := arg13.view.loc (c : Thread nD τ) ↦[arg13.view.set]{fullShare} f

theorem acc_store (f : Buf (Elt F) (arg13.view.loc (c : Thread nD τ))) (w : S256x992.Idx → Elt F .f32) :
    (accP c arg13 (arg13.view.writes (Elt F) f [⟨R00, w⟩]) : sProp 𝕄) = accP c arg13 (arg13.view.rep w) := by
  have : ∀ e, Nonempty (Elt F e) := fun e => inferInstance
  have e := pointsTo_rep (c : Thread nD τ) arg13 (arg13.view.writes (Elt F) f [⟨R00, w⟩]) fullShare (Ix := Unit) (Name := ℕ) (U := UU nD τ) (Lvl := ℕ)
  rw [read_writes_unit_zero _ (by funext a; fin_cases a <;> rfl)] at e
  exact e

section State
variable (fH : Buf (Elt F) (arg9.view.loc (c : Thread nD τ))) (fB : Buf (Elt F) (arg4.view.loc (c : Thread nD τ)))

/-- Slot `k % 2` before trip `k`: block `k` in flight, free once the blocks are done. -/
def ROLE (k : ℕ) : sProp 𝕄 := if k < 62 then FLY c X2 XO (Ring.sl 2 k) (Ring.bk 62 k) else FREE (F := F) c (Ring.sl 2 k)

/-- The resources before trip `k`: the hidden layer and b2 at their contents, the accumulator at `fA`, the core's
    `owes`, the blocks at home, slot `k % 2` in flight with block `k` (free after the last), slot `(k + 1) % 2` free. -/
def resAt (k : ℕ) (fA : Buf (Elt F) (arg13.view.loc (c : Thread nD τ))) : sProp 𝕄 :=
  iprop((arg9.view.loc (c : Thread nD τ) ↦[arg9.view.set]{fullShare} fH) ∗ (arg4.view.loc (c : Thread nD τ) ↦[arg4.view.set]{fullShare} fB)
    ∗ accP c arg13 fA ∗ (∃ W, owes (c : Thread nD τ) 0 W) ∗ HOMES c X2 XO k ∗ ROLE c X2 XO k ∗ FREE (F := F) c (Ring.sl 2 (k + 1)))

end State

theorem homes_here (P : Fin 62 → sProp 𝕄) (k : ℕ) (h : k + 1 < 62) :
    bigSep (Ring.homeSet 1 k) P = iprop(P (Ring.bk 62 (k + 1)) ∗ bigSep ((Ring.homeSet 1 k).erase (Ring.bk 62 (k + 1))) P) :=
  (congrArg (fun S => bigSep S P) (Ring.homeSet_out 1 k h)).trans (bigSep_insert (Ring.bkL_not_mem_erase 1 k))
theorem homes_next (P : Fin 62 → sProp 𝕄) (k : ℕ) (h : k + 1 < 62) :
    bigSep (Ring.homeSet 1 (k + 1)) P = iprop(P (Ring.bk 62 k) ∗ bigSep ((Ring.homeSet 1 k).erase (Ring.bk 62 (k + 1))) P) :=
  (congrArg (fun S => bigSep S P) (Ring.homeSet_succ 1 k h)).trans (bigSep_insert (Ring.bk_not_mem_erase 1 k (by omega) (by decide)))
theorem homes_tail (P : Fin 62 → sProp 𝕄) (k : ℕ) (h : 62 ≤ k + 1) (h' : k < 62) :
    bigSep (Ring.homeSet 1 (k + 1)) P = iprop(P (Ring.bk 62 k) ∗ bigSep (Ring.homeSet 1 k) P) :=
  (congrArg (fun S => bigSep S P) (Ring.homeSet_succ_tail 1 k h h')).trans (bigSep_insert (Ring.bk_not_mem_homeSet 1 k h' (by decide)))
theorem sl2_add (k : ℕ) : Ring.sl 2 (k + 1 + 1) = Ring.sl 2 k := Ring.sl_add 2 k

variable (fH : Buf (Elt F) (arg9.view.loc (c : Thread nD τ))) (fB : Buf (Elt F) (arg4.view.loc (c : Thread nD τ)))

/-- ONE TRIP with a next block: its copies issued into the other slot, block `k` waited for, the accumulator moved on. -/
theorem tripA (k : Fin k0_t1_loop.trips) (hk : k.val + 1 < 62) (fA : Buf (Elt F) (arg13.view.loc (c : Thread nD τ))) :
    resAt c X2 XO arg4 arg9 arg13 fH fB k.val fA ⊢
    wp frame (wpE (defs₀ (F := F)) 𝒱₀ (c : Thread nD τ) none) Set.univ (tripG arg0 harg0 arg1 harg1 arg2 harg2 arg4 harg4 arg6 harg6 arg7 harg7 arg8 harg8 arg9 harg9 arg11 harg11 arg13 harg13 k)
      (fun _ => resAt c X2 XO arg4 arg9 arg13 fH fB (k.val + 1)
        (arg13.view.rep (stepV c X2 XO (arg9.view.read (Elt F) fH) (arg4.view.read (Elt F) fB) k.val (arg13.view.read (Elt F) fA)))) := by
  have hc := (cond1_iff k).2 hk
  unfold resAt ROLE HOMES
  rw [if_pos (show k.val < 62 by omega), if_pos hk, sl2_add]
  rw [homes_here _ k.val hk, homes_here _ k.val hk, homes_here _ k.val hk, homes_next _ k.val hk, homes_next _ k.val hk, homes_next _ k.val hk]
  unfold FLY FREE
  iintro ⟨HH, HB, HA, ⟨%W, HW⟩, ⟨⟨Hg0, Hr0⟩, ⟨Hg1, Hr1⟩, ⟨Hgo, Hro⟩⟩, ⟨⟨%f0, HF0⟩, ⟨%f1, HF1⟩, ⟨%fo, HFo⟩⟩, ⟨⟨⟨%e0, HS0⟩, ⟨%e1, HS1⟩, ⟨%eo, HSo⟩⟩, HC0, HC1, HCo⟩⟩
  dsimp only [tripG]
  sl_unfold [k0_t1_body]
  sl_exec
  ihave HS := (wjoin c X2 (Ring.sl 2 k.val) (Ring.bk 62 k.val) _ _) $$ [HF0_dst HF1_dst]
  · isplitl [HF0_dst]
    · iexact HF0_dst
    · iexact HF1_dst
  sl_exec
  sl_step
  have ev : k0_pay2 (tripA.sl.r c X2 arg4 arg9 fH fB k) (View.readAt (Elt F) arg13.view (R00).toLoadRect fA) (tripA.sl.v171 c XO k)
      = stepV c X2 XO (arg9.view.read (Elt F) fH) (arg4.view.read (Elt F) fB) k.val (arg13.view.read (Elt F) fA) := by
    unfold tripA.sl.r tripA.sl.v171 stepV
    rw [read_o21, read_w16, read_b17, View.readAt_full, View.readAt_full]
  ihave HA' := (entails_of_eq ((congrArg (fun w => (accP c arg13 (arg13.view.writes (Elt F) fA [⟨R00, w⟩]) : sProp 𝕄)) ev).trans (acc_store c arg13 _ _))) $$ HA
  ihave HS' := (wsplit c (Ring.sl 2 k.val) _) $$ HS
  icases HS' with ⟨Hs0, Hs1⟩
  isplitl [HH]; · iexact HH
  isplitl [HB]; · iexact HB
  isplitl [HA']; · iexact HA'
  isplitl [HW]; · iexists _; iexact HW
  isplitl [HF0_src Hr0 HF1_src Hr1 HFo_src Hro]
  · isplitl [HF0_src Hr0]
    · isplitl [HF0_src]; · iexact HF0_src
      iexact Hr0
    isplitl [HF1_src Hr1]
    · isplitl [HF1_src]; · iexact HF1_src
      iexact Hr1
    isplitl [HFo_src]; · iexact HFo_src
    iexact Hro
  isplitl [HC0 HC1 HCo]
  · isplitl [HC0]; · iexists e0; iexact HC0
    isplitl [HC1]; · iexists e1; iexact HC1
    iexists eo; iexact HCo
  isplitl [Hs0 Hs1 HFo_dst]
  · isplitl [Hs0]; · iexact Hs0
    isplitl [Hs1]; · iexact Hs1
    iexists _; iexact HFo_dst
  isplitl [HF0]; · iexact HF0
  isplitl [HF1]; · iexact HF1
  iexact HFo

/-- THE LAST TRIP: no copies issued. -/
theorem tripB (k : Fin k0_t1_loop.trips) (hk : ¬ k.val + 1 < 62) (fA : Buf (Elt F) (arg13.view.loc (c : Thread nD τ))) :
    resAt c X2 XO arg4 arg9 arg13 fH fB k.val fA ⊢
    wp frame (wpE (defs₀ (F := F)) 𝒱₀ (c : Thread nD τ) none) Set.univ (tripG arg0 harg0 arg1 harg1 arg2 harg2 arg4 harg4 arg6 harg6 arg7 harg7 arg8 harg8 arg9 harg9 arg11 harg11 arg13 harg13 k)
      (fun _ => resAt c X2 XO arg4 arg9 arg13 fH fB (k.val + 1)
        (arg13.view.rep (stepV c X2 XO (arg9.view.read (Elt F) fH) (arg4.view.read (Elt F) fB) k.val (arg13.view.read (Elt F) fA)))) := by
  have hc : ¬ k0_cond1 k = 1#1 := fun h => hk ((cond1_iff k).1 h)
  have hl := trip_lt k
  unfold resAt ROLE HOMES
  rw [if_pos hl, if_neg hk, sl2_add]
  rw [homes_tail _ k.val (by omega) hl, homes_tail _ k.val (by omega) hl, homes_tail _ k.val (by omega) hl]
  unfold FLY
  rw [show FREE (F := F) c (Ring.sl 2 k.val) = iprop(((∃ f, wslotP c (Ring.sl 2 k.val) 0 f) ∗ (∃ f, wslotP c (Ring.sl 2 k.val) 1 f) ∗ (∃ f, oslotP c (Ring.sl 2 k.val) f))
    ∗ wcellP (F := F) c (Ring.sl 2 k.val) 0 ∗ wcellP (F := F) c (Ring.sl 2 k.val) 1 ∗ ocellP (F := F) c (Ring.sl 2 k.val)) from rfl]
  iintro ⟨HH, HB, HA, ⟨%W, HW⟩, ⟨Hr0, Hr1, Hro⟩, ⟨⟨%f0, HF0⟩, ⟨%f1, HF1⟩, ⟨%fo, HFo⟩⟩, HX⟩
  dsimp only [tripG]
  sl_unfold [k0_t1_body]
  sl_exec
  ihave HS := (wjoin c X2 (Ring.sl 2 k.val) (Ring.bk 62 k.val) _ _) $$ [HF0_dst HF1_dst]
  · isplitl [HF0_dst]
    · iexact HF0_dst
    · iexact HF1_dst
  sl_exec
  sl_step
  have ev : k0_pay2 (tripB.sl.r c X2 arg4 arg9 fH fB k) (View.readAt (Elt F) arg13.view (R00).toLoadRect fA) (tripB.sl.v171 c XO k)
      = stepV c X2 XO (arg9.view.read (Elt F) fH) (arg4.view.read (Elt F) fB) k.val (arg13.view.read (Elt F) fA) := by
    unfold tripB.sl.r tripB.sl.v171 stepV
    rw [read_o21, read_w16, read_b17, View.readAt_full, View.readAt_full]
  ihave HA' := (entails_of_eq ((congrArg (fun w => (accP c arg13 (arg13.view.writes (Elt F) fA [⟨R00, w⟩]) : sProp 𝕄)) ev).trans (acc_store c arg13 _ _))) $$ HA
  ihave HS' := (wsplit c (Ring.sl 2 k.val) _) $$ HS
  icases HS' with ⟨Hs0, Hs1⟩
  isplitl [HH]; · iexact HH
  isplitl [HB]; · iexact HB
  isplitl [HA']; · iexact HA'
  isplitl [HW]; · iexists _; iexact HW
  isplitl [HF0_src Hr0 HF1_src Hr1 HFo_src Hro]
  · isplitl [HF0_src Hr0]
    · isplitl [HF0_src]; · iexact HF0_src
      iexact Hr0
    isplitl [HF1_src Hr1]
    · isplitl [HF1_src]; · iexact HF1_src
      iexact Hr1
    isplitl [HFo_src]; · iexact HFo_src
    iexact Hro
  isplitl [HX]; · iexact HX
  isplitl [Hs0 Hs1 HFo_dst]
  · isplitl [Hs0]; · iexact Hs0
    isplitl [Hs1]; · iexact Hs1
    iexists _; iexact HFo_dst
  isplitl [HF0]; · iexact HF0
  isplitl [HF1]; · iexact HF1
  iexact HFo

/-! ### The loop -/

/-- The accumulator's buffer before trip `k`, from its contents `o0` at the loop's entry. -/
def accBuf (o0 : Buf (Elt F) (arg13.view.loc (c : Thread nD τ))) : ℕ → Buf (Elt F) (arg13.view.loc (c : Thread nD τ))
  | 0 => o0
  | k + 1 => arg13.view.rep (stepV c X2 XO (arg9.view.read (Elt F) fH) (arg4.view.read (Elt F) fB) k (arg13.view.read (Elt F) (accBuf o0 k)))

/-- THE LOOP, before whatever follows it: from what is held before trip 0 to what is held after trip 61. -/
theorem loop_bind (o0 : Buf (Elt F) (arg13.view.loc (c : Thread nD τ))) {β : Type} (kk : Unit → Prog (TpuEff nD τ sig (Elt F) Λ₀ .tc) β) (Q : β → sProp 𝕄) :
    resAt c X2 XO arg4 arg9 arg13 fH fB 0 (accBuf c X2 XO arg4 arg9 arg13 fH fB o0 0) ⊢
      iprop((∀ u : Unit, resAt c X2 XO arg4 arg9 arg13 fH fB 62 (accBuf c X2 XO arg4 arg9 arg13 fH fB o0 62)
          -∗ wp frame (wpE (defs₀ (F := F)) 𝒱₀ (c : Thread nD τ) none) Set.univ (kk u) Q)
        -∗ wp frame (wpE (defs₀ (F := F)) 𝒱₀ (c : Thread nD τ) none) Set.univ
            (k0_t1_loop.for k0_t1_ok () (tripsG (F := F) arg0 harg0 arg1 harg1 arg2 harg2 arg4 harg4 arg6 harg6 arg7 harg7 arg8 harg8 arg9 harg9 arg11 harg11 arg13 harg13) >>= kk) Q) := by
  have h := Scf.wp_for_bind (M := 𝕄) Idealize.ShloMosaic.frame (wpE (defs₀ (F := F)) 𝒱₀ (c : Thread nD τ) none) Set.univ
    k0_t1_loop.lb k0_t1_loop.ub k0_t1_loop.st k0_t1_ok ()
    (tripsG (F := F) arg0 harg0 arg1 harg1 arg2 harg2 arg4 harg4 arg6 harg6 arg7 harg7 arg8 harg8 arg9 harg9 arg11 harg11 arg13 harg13)
    (fun k _ => resAt c X2 XO arg4 arg9 arg13 fH fB k (accBuf c X2 XO arg4 arg9 arg13 fH fB o0 k))
    (fun k _ => by
      by_cases hk : k.val + 1 < 62
      · exact tripA c X2 XO arg0 harg0 arg1 harg1 arg2 harg2 arg4 harg4 arg6 harg6 arg7 harg7 arg8 harg8 arg9 harg9 arg11 harg11 arg13 harg13 fH fB k hk _
      · exact tripB c X2 XO arg0 harg0 arg1 harg1 arg2 harg2 arg4 harg4 arg6 harg6 arg7 harg7 arg8 harg8 arg9 harg9 arg11 harg11 arg13 harg13 fH fB k hk _)
    (kk := kk) (Q := Q)
  have e : Scf.trips k0_t1_loop.lb k0_t1_loop.ub k0_t1_loop.st = 62 := trips_eq
  rw [e] at h
  exact h

end Trip

end Cert.Proof.KI

end
-- ==== Proof.KI.Hidden.lean ====
module

public import proofs.«01_k».proof.Proof.KI.Trip
public import Idealize.ShloMosaic.Lib.VecWindow
public import Idealize.ShloMosaic.Lib.Pipeline.Value
public import Idealize.ShloMosaic.Lib.ValueIdxCore

@[expose] public section

/-! The values the kernel computes, as functions of what its operands read: the hidden layer (four column chunks), the
    accumulated product (one step a block), and the result. -/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open Idealize.ShloMosaic.Rounds
open Idealize.ShloMosaic.ValueIdx

variable {F : FTy → Type} [FloatOps F]

/-- Column chunk `j` of W1, with the unit axis its buffer has. -/
def w1V (W : S512x15872.Idx → Elt F .f32) (j : Fin 4) : S1x512x3968.Idx → Elt F .f32 :=
  fun y => W (ix2 (n0 := 512) (n1 := 15872) (y 1) ⟨3968 * j.val + (y 2).val, by have h : (y 2).val < 3968 := (y 2).isLt; have := j.isLt; omega⟩)

/-- Row `j` of b1. -/
def b1V (B : S4x1x3968.Idx → Elt F .f32) (j : Fin 4) : S1x1x3968.Idx → Elt F .f32 :=
  fun y => B (ix3 (n0 := 4) (n1 := 1) (n2 := 3968) j (y 1) (y 2))

/-- The hidden layer: column `k` is column `k % 3968` of chunk `k / 3968`. -/
def hV (X : S256x512.Idx → Elt F .f32) (W : S512x15872.Idx → Elt F .f32) (B : S4x1x3968.Idx → Elt F .f32) : S256x15872.Idx → Elt F .bf16 :=
  fun y => k0_pay6 (k0_pay5 X)
    (w1V W ⟨(y 1).val / 3968, by have h : (y 1).val < 15872 := (y 1).isLt; omega⟩)
    (b1V B ⟨(y 1).val / 3968, by have h : (y 1).val < 15872 := (y 1).isLt; omega⟩)
    (ix2 (n0 := 256) (n1 := 3968) (y 0) ⟨(y 1).val % 3968, Nat.mod_lt _ (by norm_num)⟩)

variable (c : Dev nD) (X2 : Buf (Elt F) (w2M.view.loc (c : Thread nD τ))) (XO : Buf (Elt F) (woM.view.loc (c : Thread nD τ)))

/-- The accumulator before trip `k`: zeros, then one block's product added a trip. -/
def accV (H : S256x15872.Idx → Elt F .bf16) (B : S62x1x256.Idx → Elt F .f32) : ℕ → (S256x992.Idx → Elt F .f32)
  | 0 => k0_pay1 k0_pay12
  | k + 1 => stepV c X2 XO H B k (accV H B k)

/-- The votes. -/
def outV (X : S256x512.Idx → Elt F .f32) (W : S512x15872.Idx → Elt F .f32) (B1 : S4x1x3968.Idx → Elt F .f32)
    (B2 : S62x1x256.Idx → Elt F .f32) (S : S992x32.Idx → Elt F .f32) (BO : S1x992.Idx → Elt F .f32) : S256x32.Idx → Elt F .f32 :=
  k0_pay3 S (accV c X2 XO (hV X W B1) B2 62) BO

section Reads
variable (arg1 : Memref sig .tc .hbm S512x15872 .f32) (arg2 : Memref sig .tc .vmem S4x1x3968 .f32)
  (arg9 : Memref sig .tc .vmem S256x15872 .bf16) (arg11 : Memref sig .tc .vmem S1x512x3968 .f32)
  (arg4 : Memref sig .tc .vmem S62x1x256 .f32) (arg13 : Memref sig .tc .vmem S256x992 .f32)

/-- A chunk landed in the chunk buffer reads back as what landed. -/
theorem read_chunk (hr) (g : Buf (Elt F) (arg11.view.loc (c : Thread nD τ))) (d : S512x3968.Idx → Elt F .f32) (y : S1x512x3968.Idx) :
    arg11.view.readAt (Elt F) (Rect.unit (s := S1x512x3968) ![0, 0, 0] S1x512x3968.size inb_S1x512x3968_S1x512x3968_0_0_0).toLoadRect
      (View.write (Elt F) ((arg11.slice (Rect.unit (s := S1x512x3968) ![0, 0, 0] S1x512x3968.size inb_S1x512x3968_S1x512x3968_0_0_0) hr).squeeze
        S512x3968 squeezes_S1x512x3968_S512x3968).view g d Finset.univ) y
      = d (ix2 (n0 := 512) (n1 := 3968) (y 1) (y 2)) := by
  have h0 : (Fin.cons ⟨0, Nat.one_pos⟩ (ix2 (n0 := 512) (n1 := 3968) (y 1) (y 2)) : S1x512x3968.Idx) = y := by
    funext a
    apply Fin.ext
    have h0 : (y 0).val = 0 := by have : (y 0).val < 1 := (y 0).isLt; omega
    fin_cases a
    · exact h0.symm
    · rfl
    · rfl
  refine Eq.trans (Eq.symm ?_) (congrFun (View.read_write_univ (v := ((arg11.slice (Rect.unit (s := S1x512x3968) ![0, 0, 0] S1x512x3968.size inb_S1x512x3968_S1x512x3968_0_0_0) hr).squeeze
    S512x3968 squeezes_S1x512x3968_S512x3968).view) g d) (ix2 (n0 := 512) (n1 := 3968) (y 1) (y 2)))
  refine (congrFun (Memref.read_squeeze_slice arg11 (Rect.unit (s := S1x512x3968) ![0, 0, 0] S1x512x3968.size inb_S1x512x3968_S1x512x3968_0_0_0) hr
    squeezes_S1x512x3968_S512x3968 (Shape.Squeezes.numel_eq squeezes_S1x512x3968_S512x3968) _) (ix2 (n0 := 512) (n1 := 3968) (y 1) (y 2))).trans ?_
  refine (shapeCast_dropUnit_apply (n := 2) ![512, 3968] _ _ (ix2 (n0 := 512) (n1 := 3968) (y 1) (y 2))).trans ?_
  exact congrArg _ h0

/-- The columns of W1 a copy reads are the chunk. -/
theorem read_w1 (j : Fin 4) (off : Fin 2 → ℕ) (ho : off = ![0, 3968 * j.val]) (inb) (hr) (g : Buf (Elt F) (arg1.view.loc (c : Thread nD τ))) (y : S1x512x3968.Idx) :
    (arg1.slice (Rect.unit (s := S512x15872) off S512x3968.size inb) hr).view.read (Elt F) g (ix2 (n0 := 512) (n1 := 3968) (y 1) (y 2))
      = w1V (arg1.view.read (Elt F) g) j y := by
  subst ho
  show arg1.view.read (Elt F) g _ = arg1.view.read (Elt F) g _
  congr 1
  funext a
  apply Fin.ext
  fin_cases a
  · show 0 + 1 * (y 1).val = (y 1).val
    omega
  · show 3968 * j.val + 1 * (y 2).val = 3968 * j.val + (y 2).val
    omega

/-- The row of b1 a load reads. -/
theorem read_b1 (j : Fin 4) (off : Fin 3 → ℕ) (ho : off = ![j.val, 0, 0]) (inb) (g : Buf (Elt F) (arg2.view.loc (c : Thread nD τ))) :
    arg2.view.readAt (Elt F) (Rect.unit (s := S4x1x3968) off S1x1x3968.size inb).toLoadRect g = b1V (arg2.view.read (Elt F) g) j := by
  subst ho
  funext y
  show arg2.view.read (Elt F) g _ = arg2.view.read (Elt F) g _
  congr 1
  funext a
  apply Fin.ext
  fin_cases a
  · show j.val + 1 * (y 0).val = j.val
    have : (y 0).val < 1 := (y 0).isLt
    omega
  · show 0 + 1 * (y 1).val = (y 1).val
    omega
  · show 0 + 1 * (y 2).val = (y 2).val
    omega

/-- A piece's payload at its own index is the hidden layer's at the index it lands on. -/
theorem hV_piece (X : S256x512.Idx → Elt F .f32) (W : S512x15872.Idx → Elt F .f32) (B : S4x1x3968.Idx → Elt F .f32) (j : Fin 4)
    (y : S256x15872.Idx) (x : S256x3968.Idx) (h0 : (y 0).val = (x 0).val) (h1 : (y 1).val = 3968 * j.val + (x 1).val) :
    hV X W B y = k0_pay6 (k0_pay5 X) (w1V W j) (b1V B j) x := by
  have hx : (x 1).val < 3968 := (x 1).isLt
  have e1 : (⟨(y 1).val / 3968, by have h : (y 1).val < 15872 := (y 1).isLt; omega⟩ : Fin 4) = j := Fin.ext (by show (y 1).val / 3968 = j.val; omega)
  have e2 : (ix2 (n0 := 256) (n1 := 3968) (y 0) ⟨(y 1).val % 3968, Nat.mod_lt _ (by norm_num)⟩ : S256x3968.Idx) = x := by
    funext a
    apply Fin.ext
    fin_cases a
    · exact h0
    · show (y 1).val % 3968 = (x 1).val
      omega
  unfold hV
  rw [e1, e2]

/-- A piece computed from what reads as its chunk and its row is that chunk's. -/
theorem piece_eq (X : S256x512.Idx → Elt F .f32) (W : S512x15872.Idx → Elt F .f32) (B : S4x1x3968.Idx → Elt F .f32) (j : Fin 4)
    (x : S256x512.Idx → Elt F .bf16) (w : S1x512x3968.Idx → Elt F .f32) (b : S1x1x3968.Idx → Elt F .f32)
    (hx : x = k0_pay5 X) (hw : ∀ y, w y = w1V W j y) (hb : b = b1V B j) : k0_pay6 x w b = k0_pay6 (k0_pay5 X) (w1V W j) (b1V B j) := by
  rw [hx, hb, funext hw]

/-- The four stores leave the hidden layer. -/
theorem read_hidden (X : S256x512.Idx → Elt F .f32) (W : S512x15872.Idx → Elt F .f32) (B : S4x1x3968.Idx → Elt F .f32)
    (g : Buf (Elt F) (arg9.view.loc (c : Thread nD τ))) (p0 p1 p2 p3 : S256x3968.Idx → Elt F .bf16)
    (e0 : p0 = k0_pay6 (k0_pay5 X) (w1V W 0) (b1V B 0)) (e1 : p1 = k0_pay6 (k0_pay5 X) (w1V W 1) (b1V B 1))
    (e2 : p2 = k0_pay6 (k0_pay5 X) (w1V W 2) (b1V B 2)) (e3 : p3 = k0_pay6 (k0_pay5 X) (w1V W 3) (b1V B 3)) :
    arg9.view.read (Elt F) (arg9.view.writes (Elt F) g
      [⟨Rect.unit (s := S256x15872) ![0, 11904] S256x3968.size inb_S256x15872_S256x3968_0_11904, p3⟩,
       ⟨Rect.unit (s := S256x15872) ![0, 7936] S256x3968.size inb_S256x15872_S256x3968_0_7936, p2⟩,
       ⟨Rect.unit (s := S256x15872) ![0, 3968] S256x3968.size inb_S256x15872_S256x3968_0_3968, p1⟩,
       ⟨Rect.unit (s := S256x15872) ![0, 0] S256x3968.size inb_S256x15872_S256x3968_0_0, p0⟩]) = hV X W B := by
  subst e0 e1 e2 e3
  funext y
  have hy : (y 1).val < 15872 := (y 1).isLt
  have idx : ∀ o : ℕ, o ≤ (y 1).val → (y 1).val < o + 3968 →
      ∃ x : S256x3968.Idx, ((y 0).val = (x 0).val ∧ (y 1).val = o + (x 1).val) ∧ ∀ a : Fin 2, (y a).val = (![0, o] : Fin 2 → ℕ) a + (x a).val := fun o h0 h1 =>
    ⟨ix2 (n0 := 256) (n1 := 3968) (y 0) ⟨(y 1).val - o, by omega⟩,
      ⟨rfl, by show (y 1).val = o + ((y 1).val - o); omega⟩, fun a => by
        fin_cases a
        · show (y 0).val = 0 + (y 0).val
          omega
        · show (y 1).val = o + ((y 1).val - o)
          omega⟩
  by_cases h3 : 11904 ≤ (y 1).val
  · obtain ⟨x, ⟨hx0, hx1⟩, hx⟩ := idx 11904 h3 (by omega)
    exact (View.read_writes_cons_unit_of_mem arg9.view _ _ _ _ y x rfl hx).trans (hV_piece X W B 3 y x hx0 hx1).symm
  refine (View.read_writes_cons_unit_of_not_mem arg9.view _ _ _ _ y rfl 1 (Or.inl (by show (y 1).val < 11904; omega))).trans ?_
  by_cases h2 : 7936 ≤ (y 1).val
  · obtain ⟨x, ⟨hx0, hx1⟩, hx⟩ := idx 7936 h2 (by omega)
    exact (View.read_writes_cons_unit_of_mem arg9.view _ _ _ _ y x rfl hx).trans (hV_piece X W B 2 y x hx0 hx1).symm
  refine (View.read_writes_cons_unit_of_not_mem arg9.view _ _ _ _ y rfl 1 (Or.inl (by show (y 1).val < 7936; omega))).trans ?_
  by_cases h1 : 3968 ≤ (y 1).val
  · obtain ⟨x, ⟨hx0, hx1⟩, hx⟩ := idx 3968 h1 (by omega)
    exact (View.read_writes_cons_unit_of_mem arg9.view _ _ _ _ y x rfl hx).trans (hV_piece X W B 1 y x hx0 hx1).symm
  refine (View.read_writes_cons_unit_of_not_mem arg9.view _ _ _ _ y rfl 1 (Or.inl (by show (y 1).val < 3968; omega))).trans ?_
  obtain ⟨x, ⟨hx0, hx1⟩, hx⟩ := idx 0 (Nat.zero_le _) (by omega)
  exact (View.read_writes_cons_unit_of_mem arg9.view _ _ _ _ y x rfl hx).trans (hV_piece X W B 0 y x hx0 hx1).symm

/-- The accumulator's contents before trip `k` read as the accumulated value. -/
theorem read_accBuf (fH : Buf (Elt F) (arg9.view.loc (c : Thread nD τ))) (fB : Buf (Elt F) (arg4.view.loc (c : Thread nD τ)))
    (o0 : Buf (Elt F) (arg13.view.loc (c : Thread nD τ))) (h0 : arg13.view.read (Elt F) o0 = k0_pay1 k0_pay12) :
    ∀ k, arg13.view.read (Elt F) (accBuf c X2 XO arg4 arg9 arg13 fH fB o0 k)
      = accV c X2 XO (arg9.view.read (Elt F) fH) (arg4.view.read (Elt F) fB) k
  | 0 => h0
  | k + 1 => (View.read_rep _ _).trans (congrArg _ (read_accBuf fH fB o0 h0 k))

end Reads

end Cert.Proof.KI

end
-- ==== Proof.KI.Body.lean ====
module

public import proofs.«01_k».proof.Proof.KI.Hidden
public import Idealize.ShloMosaic.Lib.VecWindow
public import Idealize.ShloMosaic.Lib.Pipeline.Value
public import Idealize.ShloMosaic.Lib.ValueIdxCore

@[expose] public section

/-! The kernel's run from its entry to its return: the hidden layer computed chunk by chunk while W1's chunks land, the
    loop over the blocks, and the votes stored. -/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

section Body
variable (c : Dev nD) (X2 : Buf (Elt F) (w2M.view.loc (c : Thread nD τ))) (XO : Buf (Elt F) (woM.view.loc (c : Thread nD τ)))
  (arg0 : Memref sig .tc .vmem S256x512 .f32) (harg0 : arg0.IsWhole)
  (arg1 : Memref sig .tc .hbm S512x15872 .f32) (harg1 : arg1.IsWhole)
  (arg2 : Memref sig .tc .vmem S4x1x3968 .f32) (harg2 : arg2.IsWhole)
  (arg4 : Memref sig .tc .vmem S62x1x256 .f32) (harg4 : arg4.IsWhole)
  (arg6 : Memref sig .tc .vmem S992x32 .f32) (harg6 : arg6.IsWhole)
  (arg7 : Memref sig .tc .vmem S1x992 .f32) (harg7 : arg7.IsWhole)
  (arg8 : Memref sig .tc .vmem S256x32 .f32) (harg8 : arg8.IsWhole)
  (arg9 : Memref sig .tc .vmem S256x15872 .bf16) (harg9 : arg9.IsWhole)
  (arg11 : Memref sig .tc .vmem S1x512x3968 .f32) (harg11 : arg11.IsWhole)
  (arg13 : Memref sig .tc .vmem S256x992 .f32) (harg13 : arg13.IsWhole)

/-- The semaphore W1's chunks are counted on. -/
def w1sem : DmaSems sig S_ := (cc0_scratch6.slice (Rect.unit (s := S1) ![0] S1.size inb_S1_S1_0)).squeeze S_ squeezes_S1_S_
@[sl_canon] theorem w1semL (hh) : (cc0_scratch6.slice (Rect.unit (s := S1) ![0] S1.size hh)).squeeze S_ squeezes_S1_S_ = w1sem := rfl

abbrev bodyG : Prog (TpuEff nD τ sig (Elt F) Λ₀ .tc) PUnit :=
  cc0_bsq_fused (F := F) arg0 harg0 arg1 harg1 arg2 harg2 w2M (Memref.isWhole_whole _) arg4 harg4 woM (Memref.isWhole_whole _)
    arg6 harg6 arg7 harg7 arg8 harg8 arg9 harg9 wbufM (Memref.isWhole_whole _) arg11 harg11
    obufM (Memref.isWhole_whole _) arg13 harg13 cc0_scratch5 cc0_scratch6 cc0_scratch7

abbrev ownP {sp : Space} {s : Shape} {e : EltTy} (m : Memref sig .tc sp s e) (f : Buf (Elt F) (m.view.loc (c : Thread nD τ))) : sProp 𝕄 :=
  m.view.loc (c : Thread nD τ) ↦[m.view.set]{fullShare} f

theorem sl2_0 : Ring.sl 2 0 = 0 := rfl
theorem sl2_1 : Ring.sl 2 (0 + 1) = 1 := rfl
theorem bk62_0 : Ring.bk 62 0 = 0 := rfl
theorem role_0 : ROLE c X2 XO 0 = FLY c X2 XO 0 0 := if_pos (by decide)
theorem free_0 : FREE (F := F) c 0 = iprop(((∃ f, wslotP c 0 0 f) ∗ (∃ f, wslotP c 0 1 f) ∗ (∃ f, oslotP c 0 f))
    ∗ wcellP (F := F) c 0 0 ∗ wcellP (F := F) c 0 1 ∗ ocellP (F := F) c 0) := rfl
attribute [local sl_canon] sl2_0 sl2_1 bk62_0 role_0

/-- What the prologue leaves is what the loop starts from. -/
theorem resAt_zero (fH : Buf (Elt F) (arg9.view.loc (c : Thread nD τ))) (fB : Buf (Elt F) (arg4.view.loc (c : Thread nD τ)))
    (o0 : Buf (Elt F) (arg13.view.loc (c : Thread nD τ))) (e0 e1 eo) (W : Waits sig Unit) :
    iprop(ownP c arg9 fH ∗ ownP c arg4 fB ∗ ownP c arg13 o0 ∗ owes (c : Thread nD τ) 0 W ∗ HOMES c X2 XO 0
      ∗ (wflyP c X2 0 0 0 e0 ∗ wflyP c X2 0 1 0 e1 ∗ oflyP c XO 0 0 eo) ∗ FREE (F := F) c 1)
    ⊢ resAt c X2 XO arg4 arg9 arg13 fH fB 0 (accBuf c X2 XO arg4 arg9 arg13 fH fB o0 0) := by
  unfold resAt
  rw [role_0]
  unfold FLY
  iintro ⟨H9, H4, H13, HW, HH, ⟨F0, F1, Fo⟩, HF⟩
  isplitl [H9]; · iexact H9
  isplitl [H4]; · iexact H4
  isplitl [H13]; · iexact H13
  isplitl [HW]; · iexists _; iexact HW
  isplitl [HH]; · iexact HH
  isplitl [F0 F1 Fo]
  · isplitl [F0]; · iexists _; iexact F0
    isplitl [F1]; · iexists _; iexact F1
    iexists _; iexact Fo
  iexact HF

/-- A store of the whole result leaves the buffer at what was stored. -/
theorem out_store (f : Buf (Elt F) (arg8.view.loc (c : Thread nD τ))) (w w' : S256x32.Idx → Elt F .f32) (hw : w = w') :
    (ownP c arg8 (arg8.view.writes (Elt F) f [⟨Rect.unit (s := S256x32) ![0, 0] S256x32.size inb_S256x32_S256x32_0_0, w⟩]) : sProp 𝕄)
      = ownP c arg8 (arg8.view.rep w') := by
  subst hw
  have : ∀ e, Nonempty (Elt F e) := fun e => inferInstance
  have e := pointsTo_rep (c : Thread nD τ) arg8 (arg8.view.writes (Elt F) f [⟨Rect.unit (s := S256x32) ![0, 0] S256x32.size inb_S256x32_S256x32_0_0, w⟩])
    fullShare (Ix := Unit) (Name := ℕ) (U := UU nD τ) (Lvl := ℕ)
  rw [read_writes_unit_zero _ (by funext a; fin_cases a <;> rfl)] at e
  exact e

/-- What the run leaves: the operands as they were, the result at the votes, the blocks at home, both slots free. -/
def bodyPost (g0 : Buf (Elt F) (arg0.view.loc (c : Thread nD τ)))
    (g1 : Buf (Elt F) (arg1.view.loc (c : Thread nD τ)))
    (g2 : Buf (Elt F) (arg2.view.loc (c : Thread nD τ)))
    (g4 : Buf (Elt F) (arg4.view.loc (c : Thread nD τ)))
    (g6 : Buf (Elt F) (arg6.view.loc (c : Thread nD τ)))
    (g7 : Buf (Elt F) (arg7.view.loc (c : Thread nD τ))) : sProp 𝕄 :=
  iprop(ownP c arg0 g0 ∗ ownP c arg1 g1 ∗ ownP c arg2 g2 ∗ ownP c arg4 g4 ∗ ownP c arg6 g6 ∗ ownP c arg7 g7
    ∗ ownP c arg8 (arg8.view.rep (outV c X2 XO (arg0.view.read (Elt F) g0) (arg1.view.read (Elt F) g1) (arg2.view.read (Elt F) g2)
        (arg4.view.read (Elt F) g4) (arg6.view.read (Elt F) g6) (arg7.view.read (Elt F) g7)))
    ∗ (∃ f, ownP c arg9 f) ∗ (∃ f, ownP c arg11 f) ∗ (∃ f, ownP c arg13 f)
    ∗ HOMES c X2 XO 62 ∗ FREE (F := F) c 0 ∗ FREE (F := F) c 1
    ∗ semVal ((c : Thread nD τ), SemLoc.dma w1sem.sem) 0 ∗ ∃ W, owes (c : Thread nD τ) 0 W)

/-- `bodyPost`, piece by piece. -/
theorem bodyPost_eq (g0 : Buf (Elt F) (arg0.view.loc (c : Thread nD τ)))
    (g1 : Buf (Elt F) (arg1.view.loc (c : Thread nD τ)))
    (g2 : Buf (Elt F) (arg2.view.loc (c : Thread nD τ)))
    (g4 : Buf (Elt F) (arg4.view.loc (c : Thread nD τ)))
    (g6 : Buf (Elt F) (arg6.view.loc (c : Thread nD τ)))
    (g7 : Buf (Elt F) (arg7.view.loc (c : Thread nD τ))) :
    bodyPost c X2 XO arg0 arg1 arg2 arg4 arg6 arg7 arg8 arg9 arg11 arg13 g0 g1 g2 g4 g6 g7 =
  iprop(ownP c arg0 g0 ∗ ownP c arg1 g1 ∗ ownP c arg2 g2 ∗ ownP c arg4 g4 ∗ ownP c arg6 g6 ∗ ownP c arg7 g7
    ∗ ownP c arg8 (arg8.view.rep (outV c X2 XO (arg0.view.read (Elt F) g0) (arg1.view.read (Elt F) g1) (arg2.view.read (Elt F) g2)
        (arg4.view.read (Elt F) g4) (arg6.view.read (Elt F) g6) (arg7.view.read (Elt F) g7)))
    ∗ (∃ f, ownP c arg9 f) ∗ (∃ f, ownP c arg11 f) ∗ (∃ f, ownP c arg13 f)
    ∗ HOMES c X2 XO 62 ∗ FREE (F := F) c 0 ∗ FREE (F := F) c 1
    ∗ semVal ((c : Thread nD τ), SemLoc.dma w1sem.sem) 0 ∗ ∃ W, owes (c : Thread nD τ) 0 W) := rfl

theorem role_62 : ROLE c X2 XO 62 = FREE (F := F) c 0 := if_neg (by decide)
theorem sl2_63 : Ring.sl 2 (62 + 1) = 1 := rfl

set_option backward.proofsInPublic true in
/-- THE RUN: from the operands, the blocks at home and the buffers at whatever they hold, to `bodyPost`. -/
theorem bodyRun (g0 g1 g2 g4 g6 g7 g8 g9 g11 g13) (W : Waits sig Unit) :
    iprop(ownP c arg0 g0 ∗ ownP c arg1 g1 ∗ ownP c arg2 g2 ∗ ownP c arg4 g4 ∗ ownP c arg6 g6 ∗ ownP c arg7 g7 ∗ ownP c arg8 g8
      ∗ ownP c arg9 g9 ∗ ownP c arg11 g11 ∗ ownP c arg13 g13
      ∗ (whomeP c X2 0 0 ∗ whomeP c X2 1 0 ∗ ohomeP c XO 0) ∗ HOMES c X2 XO 0 ∗ FREE (F := F) c 0 ∗ FREE (F := F) c 1
      ∗ semVal ((c : Thread nD τ), SemLoc.dma w1sem.sem) 0 ∗ owes (c : Thread nD τ) 0 W)
    ⊢ wp frame (wpE (defs₀ (F := F)) 𝒱₀ (c : Thread nD τ) none) Set.univ
        (bodyG arg0 harg0 arg1 harg1 arg2 harg2 arg4 harg4 arg6 harg6 arg7 harg7 arg8 harg8 arg9 harg9 arg11 harg11 arg13 harg13)
        (fun _ => bodyPost c X2 XO arg0 arg1 arg2 arg4 arg6 arg7 arg8 arg9 arg11 arg13 g0 g1 g2 g4 g6 g7) := by
  rw [free_0]
  unfold bodyPost
  iintro ⟨H0, H1, H2, H4, H6, H7, H8, H9, H11, H13, ⟨Hh0, Hh1, Hho⟩, HH, ⟨⟨⟨%e0, HS0⟩, ⟨%e1, HS1⟩, ⟨%eo, HSo⟩⟩, HC0, HC1, HCo⟩, HF1, Hw1, HW⟩
  dsimp only [bodyG]
  sl_exec
  ihave HR := (resAt_zero c X2 XO arg4 arg9 arg13 _ _ _ _ _ _ _) $$ [H9 H4 H13 HW HH HC0 HC1 HCo HF1]
  · isplitl [H9]; · iexact H9
    isplitl [H4]; · iexact H4
    isplitl [H13]; · iexact H13
    isplitl [HW]; · iexact HW
    isplitl [HH]; · iexact HH
    isplitl [HC0 HC1 HCo]
    · isplitl [HC0]; · iexact HC0
      isplitl [HC1]; · iexact HC1
      iexact HCo
    iexact HF1
  iapply (loop_bind c X2 XO arg0 harg0 arg1 harg1 arg2 harg2 arg4 harg4 arg6 harg6 arg7 harg7 arg8 harg8 arg9 harg9 arg11 harg11 arg13 harg13 _ _ _ _ _) $$ HR
  iintro %u HR
  unfold resAt
  icases HR with ⟨H9, H4, H13, ⟨%W', HW⟩, HH, HR0, HR1⟩
  sl_exec
  sl_step
  have eZ : arg13.view.read (Elt F) (arg13.view.writes (Elt F) arg13.view.junk (bodyRun.sl.H13_1 (F := F))) = k0_pay1 k0_pay12 := by
    unfold bodyRun.sl.H13_1
    exact read_writes_unit_zero _ (by funext a; fin_cases a <;> rfl) _ _ _
  have eX : bodyRun.sl.r c arg0 g0 = k0_pay5 (arg0.view.read (Elt F) g0) := by
    unfold bodyRun.sl.r
    exact congrArg k0_pay5 (View.readAt_full _ _ _)
  have eH : arg9.view.read (Elt F) (arg9.view.writes (Elt F) arg9.view.junk (bodyRun.sl.H9_4 c arg0 arg1 arg2 arg11 g0 g1 g2 g11))
      = hV (arg0.view.read (Elt F) g0) (arg1.view.read (Elt F) g1) (arg2.view.read (Elt F) g2) := by
    unfold bodyRun.sl.H9_4
    refine read_hidden c arg9 _ _ _ _ _ _ _ _ ?_ ?_ ?_ ?_
    · refine Eq.trans (b := k0_pay6 (bodyRun.sl.r c arg0 g0) (bodyRun.sl.v27 c arg1 arg11 g1 g11)
        (arg2.view.readAt (Elt F) (Rect.unit (s := S4x1x3968) ![0, 0, 0] S1x1x3968.size inb_S4x1x3968_S1x1x3968_0_0_0).toLoadRect g2)) rfl ?_
      exact piece_eq _ _ _ 0 _ _ _ eX (fun y => (read_chunk c arg11 _ _ _ y).trans (read_w1 c arg1 0 ![0, 0] rfl _ _ g1 y))
        (read_b1 c arg2 0 ![0, 0, 0] rfl _ g2)
    · refine Eq.trans (b := k0_pay6 (bodyRun.sl.r c arg0 g0) (bodyRun.sl.v51 c arg1 arg11 g1 g11)
        (arg2.view.readAt (Elt F) (Rect.unit (s := S4x1x3968) ![1, 0, 0] S1x1x3968.size inb_S4x1x3968_S1x1x3968_1_0_0).toLoadRect g2)) rfl ?_
      exact piece_eq _ _ _ 1 _ _ _ eX (fun y => (read_chunk c arg11 _ _ _ y).trans (read_w1 c arg1 1 ![0, 3968] rfl _ _ g1 y))
        (read_b1 c arg2 1 ![1, 0, 0] rfl _ g2)
    · refine Eq.trans (b := k0_pay6 (bodyRun.sl.r c arg0 g0) (bodyRun.sl.v75 c arg1 arg11 g1 g11)
        (arg2.view.readAt (Elt F) (Rect.unit (s := S4x1x3968) ![2, 0, 0] S1x1x3968.size inb_S4x1x3968_S1x1x3968_2_0_0).toLoadRect g2)) rfl ?_
      exact piece_eq _ _ _ 2 _ _ _ eX (fun y => (read_chunk c arg11 _ _ _ y).trans (read_w1 c arg1 2 ![0, 7936] rfl _ _ g1 y))
        (read_b1 c arg2 2 ![2, 0, 0] rfl _ g2)
    · refine Eq.trans (b := k0_pay6 (bodyRun.sl.r c arg0 g0) (bodyRun.sl.v99 c arg1 arg11 g1 g11)
        (arg2.view.readAt (Elt F) (Rect.unit (s := S4x1x3968) ![3, 0, 0] S1x1x3968.size inb_S4x1x3968_S1x1x3968_3_0_0).toLoadRect g2)) rfl ?_
      exact piece_eq _ _ _ 3 _ _ _ eX (fun y => (read_chunk c arg11 _ _ _ y).trans (read_w1 c arg1 3 ![0, 11904] rfl _ _ g1 y))
        (read_b1 c arg2 3 ![3, 0, 0] rfl _ g2)
  have eA : bodyRun.sl.v120 c X2 XO arg0 arg1 arg2 arg4 arg9 arg11 arg13 g0 g1 g2 g4 g11
      = accV c X2 XO (hV (arg0.view.read (Elt F) g0) (arg1.view.read (Elt F) g1) (arg2.view.read (Elt F) g2)) (arg4.view.read (Elt F) g4) 62 := by
    unfold bodyRun.sl.v120
    refine (View.readAt_full _ _ _).trans ((read_accBuf c X2 XO arg9 arg4 arg13 _ g4 _ eZ 62).trans ?_)
    rw [eH]
  have eO : k0_pay3 (arg6.view.readAt (Elt F) (Rect.unit (s := S992x32) ![0, 0] S992x32.size inb_S992x32_S992x32_0_0).toLoadRect g6)
        (bodyRun.sl.v120 c X2 XO arg0 arg1 arg2 arg4 arg9 arg11 arg13 g0 g1 g2 g4 g11)
        (arg7.view.readAt (Elt F) (Rect.unit (s := S1x992) ![0, 0] S1x992.size inb_S1x992_S1x992_0_0).toLoadRect g7)
      = outV c X2 XO (arg0.view.read (Elt F) g0) (arg1.view.read (Elt F) g1) (arg2.view.read (Elt F) g2)
        (arg4.view.read (Elt F) g4) (arg6.view.read (Elt F) g6) (arg7.view.read (Elt F) g7) := by
    unfold outV
    rw [eA]
    exact congrArg₂ (fun s b => k0_pay3 s _ b) (View.readAt_full _ _ _) (View.readAt_full _ _ _)
  ihave H8' := (entails_of_eq (out_store c arg8 g8 _ _ eO)) $$ H8
  isplitl [H0]; · iexact H0
  isplitl [H1]; · iexact H1
  isplitl [H2]; · iexact H2
  isplitl [H4]; · iexact H4
  isplitl [H6]; · iexact H6
  isplitl [H7]; · iexact H7
  isplitl [H8']; · iexact H8'
  isplitl [H9]; · iexists _; iexact H9
  isplitl [H11]; · iexists _; iexact H11
  isplitl [H13]; · iexists _; iexact H13
  isplitl [HH]; · iexact HH
  isplitl [HR0]; · iapply (entails_of_eq (role_62 c X2 XO)); iexact HR0
  isplitl [HR1]; · iexact HR1
  isplitl [Hw1]; · iexact Hw1
  iexists _; iexact HW

end Body

end Cert.Proof.KI

end
-- ==== Proof.KI.Blocks.lean ====
module

public import proofs.«01_k».proof.Proof.KI.Body
public import proofs.«01_k».proof.Proof.Gen.KernelIdeal.Frame

@[expose] public section

/-! Whole arrays and buffers as the pieces the run holds, and back: W2 as two halves of 62 blocks, Wout as 62 blocks, W2's
    buffer as two slots of two halves, Wout's as two slots; and the kernel's own semaphores one by one. -/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## W2 and Wout -/

/-- The elements of half `h` of block `b` of W2, as indices of W2. -/
abbrev bset (h : Fin 2) (b : Fin 62) : Finset S15872x15872.Idx := (wblk h b).view.set
theorem mem_bset (h : Fin 2) (b : Fin 62) (i : S15872x15872.Idx) :
    i ∈ bset h b ↔ (7936 * h.val ≤ (i 0).val ∧ (i 0).val < 7936 * h.val + 7936) ∧ 256 * b.val ≤ (i 1).val ∧ (i 1).val < 256 * b.val + 256 := by
  refine (Eq.to_iff (congrArg (fun S : Finset S15872x15872.Idx => i ∈ S) (View.set_slice_whole _ _))).trans (Rect.mem_set_unit.trans ?_)
  constructor
  · intro H
    exact ⟨H 0, H 1⟩
  · rintro ⟨a0, a1⟩ a
    fin_cases a
    · exact a0
    · exact a1
/-- The elements of block `b` of Wout. -/
abbrev oset (b : Fin 62) : Finset S15872x992.Idx := (oblk b).view.set
theorem mem_oset (b : Fin 62) (i : S15872x992.Idx) : i ∈ oset b ↔ 256 * b.val ≤ (i 0).val ∧ (i 0).val < 256 * b.val + 256 := by
  refine (Eq.to_iff (congrArg (fun S : Finset S15872x992.Idx => i ∈ S) (View.set_slice_whole _ _))).trans (Rect.mem_set_unit.trans ?_)
  have h1 : (i 1).val < 992 := (i 1).isLt
  constructor
  · intro H
    exact H 0
  · rintro a0 a
    fin_cases a
    · exact a0
    · show 0 ≤ (i 1).val ∧ (i 1).val < 0 + 992; omega

/-- Half `h` of W2. -/
abbrev hset (h : Fin 2) : Finset S15872x15872.Idx := Finset.univ.biUnion (bset h)
theorem mem_hset (h : Fin 2) (i : S15872x15872.Idx) : i ∈ hset h ↔ 7936 * h.val ≤ (i 0).val ∧ (i 0).val < 7936 * h.val + 7936 := by
  refine Finset.mem_biUnion.trans ?_
  have h1 : (i 1).val < 15872 := (i 1).isLt
  constructor
  · rintro ⟨b, -, hb⟩
    exact ((mem_bset h b i).1 hb).1
  · intro h0
    exact ⟨⟨(i 1).val / 256, by omega⟩, Finset.mem_univ _, (mem_bset h _ i).2 ⟨h0, by show 256 * ((i 1).val / 256) ≤ _; omega, by show _ < 256 * ((i 1).val / 256) + 256; omega⟩⟩
theorem bset_disj (h : Fin 2) (b b' : Fin 62) (ne : b ≠ b') : Disjoint (bset h b) (bset h b') := by
  refine Finset.disjoint_left.2 fun i hi hj => ?_
  have a := ((mem_bset h b i).1 hi).2
  have a' := ((mem_bset h b' i).1 hj).2
  exact ne (Fin.ext (by omega))
theorem hset_disj (h h' : Fin 2) (ne : h ≠ h') : Disjoint (hset h) (hset h') := by
  refine Finset.disjoint_left.2 fun i hi hj => ?_
  have a := (mem_hset h i).1 hi
  have a' := (mem_hset h' i).1 hj
  exact ne (Fin.ext (by omega))
theorem hset_cover : Finset.univ.biUnion hset = (Finset.univ : Finset S15872x15872.Idx) := by
  refine Finset.ext fun i => ?_
  have h0 : (i 0).val < 15872 := (i 0).isLt
  refine Iff.trans Finset.mem_biUnion ?_
  refine ⟨fun _ => Finset.mem_univ _, fun _ => ?_⟩
  exact ⟨⟨(i 0).val / 7936, by omega⟩, Finset.mem_univ _, (mem_hset _ i).2 ⟨by show 7936 * ((i 0).val / 7936) ≤ _; omega, by show _ < 7936 * ((i 0).val / 7936) + 7936; omega⟩⟩
theorem oset_disj (b b' : Fin 62) (ne : b ≠ b') : Disjoint (oset b) (oset b') := by
  refine Finset.disjoint_left.2 fun i hi hj => ?_
  have a := (mem_oset b i).1 hi
  have a' := (mem_oset b' i).1 hj
  exact ne (Fin.ext (by omega))
theorem oset_cover : Finset.univ.biUnion oset = (Finset.univ : Finset S15872x992.Idx) := by
  refine Finset.ext fun i => ?_
  have h0 : (i 0).val < 15872 := (i 0).isLt
  refine Iff.trans Finset.mem_biUnion ?_
  refine ⟨fun _ => Finset.mem_univ _, fun _ => ?_⟩
  exact ⟨⟨(i 0).val / 256, by omega⟩, Finset.mem_univ _, (mem_oset _ i).2 ⟨by show 256 * ((i 0).val / 256) ≤ _; omega, by show _ < 256 * ((i 0).val / 256) + 256; omega⟩⟩

section Arrays
variable (c : Dev nD) (X2 : Buf (Elt F) (w2M.view.loc (c : Thread nD τ))) (XO : Buf (Elt F) (woM.view.loc (c : Thread nD τ)))

/-- Half `h` of W2 is its 62 blocks. -/
theorem hset_split (h : Fin 2) : (((c : Thread nD τ).loc main_arg3) ↦[hset h]{fullShare} X2 : sProp 𝕄) = bigSep Finset.univ (whomeP c X2 h) :=
  Ring.pointsTo_sub_blocks (ℓ := (c : Thread nD τ).loc main_arg3) (bset h) (bset_disj h) (hset h) rfl X2
/-- W2 whole is its blocks' two halves. -/
theorem w2_eq : (((c : Thread nD τ).loc main_arg3) ↦{fullShare} X2 : sProp 𝕄) = iprop(bigSep Finset.univ (whomeP c X2 0) ∗ bigSep Finset.univ (whomeP c X2 1)) := by
  refine (Ring.pointsTo_blocks (ℓ := (c : Thread nD τ).loc main_arg3) hset hset_disj hset_cover X2).trans ((Ring.bigSep_fin2 _).trans ?_)
  exact congrArg₂ (fun P Q : sProp 𝕄 => iprop(P ∗ Q))
    (hset_split c X2 0) (hset_split c X2 1)
/-- Wout whole is its blocks. -/
theorem wo_eq : (((c : Thread nD τ).loc main_arg5) ↦{fullShare} XO : sProp 𝕄) = bigSep Finset.univ (ohomeP c XO) :=
  Ring.pointsTo_blocks (ℓ := (c : Thread nD τ).loc main_arg5) oset oset_disj oset_cover XO

/-- All blocks home: block 0 apart from the rest; -/
theorem homes_zero (P : Fin 62 → sProp 𝕄) : bigSep Finset.univ P = iprop(P 0 ∗ bigSep (Ring.homeSet 1 0) P) := by
  have e : (Finset.univ : Finset (Fin 62)) = insert 0 (Ring.homeSet (NB := 62) 1 0) := by
    ext b; simp only [Finset.mem_univ, Finset.mem_insert, Ring.mem_homeSet, true_iff, Fin.ext_iff]
    have : ((0 : Fin 62) : ℕ) = 0 := rfl
    omega
  rw [e, bigSep_insert (by simp [Ring.mem_homeSet])]
  rfl
theorem homes_eq (k : ℕ) : (HOMES c X2 XO k : sProp 𝕄)
    = iprop(bigSep (Ring.homeSet 1 k) (whomeP c X2 0) ∗ bigSep (Ring.homeSet 1 k) (whomeP c X2 1) ∗ bigSep (Ring.homeSet 1 k) (ohomeP c XO)) := rfl
/-- after the last trip, all of them. -/
theorem homes_end : (HOMES c X2 XO 62 : sProp 𝕄) = iprop(bigSep Finset.univ (whomeP c X2 0) ∗ bigSep Finset.univ (whomeP c X2 1) ∗ bigSep Finset.univ (ohomeP c XO)) := by
  unfold HOMES
  rw [Ring.homeSet_last 1 62 (le_refl _)]

end Arrays

/-! ## The buffers -/

abbrev fset (s : Fin 2) : Finset S2x15872x256.Idx := (wfull s).view.set
theorem fset_disj (s s' : Fin 2) (ne : s ≠ s') : Disjoint (fset s) (fset s') := by
  refine Finset.disjoint_left.2 fun i hi hj => ?_
  have a := (mem_wfull s i).1 hi
  have a' := (mem_wfull s' i).1 hj
  exact ne (Fin.ext (by omega))
theorem fset_cover : Finset.univ.biUnion fset = (Finset.univ : Finset S2x15872x256.Idx) := by
  refine Finset.ext fun i => ?_
  refine Iff.trans Finset.mem_biUnion ?_
  exact ⟨fun _ => Finset.mem_univ _, fun _ => ⟨i 0, Finset.mem_univ _, (mem_wfull _ i).2 rfl⟩⟩
abbrev sset (s : Fin 2) : Finset S2x256x992.Idx := (oslot s).view.set
theorem mem_sset (s : Fin 2) (i : S2x256x992.Idx) : i ∈ sset s ↔ (i 0).val = s.val := by
  refine (Eq.to_iff (congrArg (fun S : Finset S2x256x992.Idx => i ∈ S) ((View.set_reshape _ _).trans (View.set_slice_whole _ _)))).trans (Rect.mem_set_unit.trans ?_)
  have h1 : (i 1).val < 256 := (i 1).isLt
  have h2 : (i 2).val < 992 := (i 2).isLt
  constructor
  · intro H
    have a0 : s.val ≤ (i 0).val ∧ (i 0).val < s.val + 1 := H 0
    omega
  · rintro a0 a
    fin_cases a
    · show s.val ≤ (i 0).val ∧ (i 0).val < s.val + 1; omega
    · show 0 ≤ (i 1).val ∧ (i 1).val < 0 + 256; omega
    · show 0 ≤ (i 2).val ∧ (i 2).val < 0 + 992; omega
theorem sset_disj (s s' : Fin 2) (ne : s ≠ s') : Disjoint (sset s) (sset s') := by
  refine Finset.disjoint_left.2 fun i hi hj => ?_
  have a := (mem_sset s i).1 hi
  have a' := (mem_sset s' i).1 hj
  exact ne (Fin.ext (by omega))
theorem sset_cover : Finset.univ.biUnion sset = (Finset.univ : Finset S2x256x992.Idx) := by
  refine Finset.ext fun i => ?_
  refine Iff.trans Finset.mem_biUnion ?_
  exact ⟨fun _ => Finset.mem_univ _, fun _ => ⟨i 0, Finset.mem_univ _, (mem_sset _ i).2 rfl⟩⟩

section Buffers
variable (c : Dev nD)

theorem wbuf_split : iprop(∃ f : Buf (Elt F) ((c : Thread nD τ).loc cc0_scratch1), ((c : Thread nD τ).loc cc0_scratch1) ↦{fullShare} f)
    ⊢ (iprop(((∃ f, wslotP c 0 0 f) ∗ (∃ f, wslotP c 0 1 f)) ∗ ((∃ f, wslotP c 1 0 f) ∗ (∃ f, wslotP c 1 1 f))) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) fset fset_disj fset_cover f).trans (Ring.bigSep_fin2 _))) $$ H
  icases H2 with ⟨H0, H1⟩
  isplitl [H0]
  · iapply (wsplit c 0 f); iexact H0
  · iapply (wsplit c 1 f); iexact H1
theorem slot_join (s : Fin 2) : iprop((∃ f, wslotP c s 0 f) ∗ (∃ f, wslotP c s 1 f)) ⊢ (iprop(∃ f, wfullP c s f) : sProp 𝕄) := by
  iintro ⟨⟨%f0, H0⟩, ⟨%f1, H1⟩⟩
  iapply (Ring.pointsTo_sub_blocks_join_exists (ℓ := (c : Thread nD τ).loc cc0_scratch1) (wset s) (wslot_disj s) _ (wslot_cover s) f0)
  irw [Ring.bigSep_fin2]
  isplitl [H0]
  · iexists f0; iexact H0
  · iexists f1; iexact H1
theorem wbuf_join : (iprop(((∃ f, wslotP c 0 0 f) ∗ (∃ f, wslotP c 0 1 f)) ∗ ((∃ f, wslotP c 1 0 f) ∗ (∃ f, wslotP c 1 1 f))) : sProp 𝕄)
    ⊢ iprop(∃ f : Buf (Elt F) ((c : Thread nD τ).loc cc0_scratch1), ((c : Thread nD τ).loc cc0_scratch1) ↦{fullShare} f) := by
  iintro ⟨H0, H1⟩
  ihave H0' := (slot_join c 0) $$ H0
  ihave H1' := (slot_join c 1) $$ H1
  icases H0' with ⟨%f0, H0⟩
  icases H1' with ⟨%f1, H1⟩
  iapply (Ring.pointsTo_blocks_join_exists (ℓ := (c : Thread nD τ).loc cc0_scratch1) fset fset_disj fset_cover f0)
  irw [Ring.bigSep_fin2]
  isplitl [H0]
  · iexists f0; iexact H0
  · iexists f1; iexact H1
theorem obuf_split : iprop(∃ f : Buf (Elt F) ((c : Thread nD τ).loc cc0_scratch3), ((c : Thread nD τ).loc cc0_scratch3) ↦{fullShare} f)
    ⊢ (iprop((∃ f, oslotP c 0 f) ∗ (∃ f, oslotP c 1 f)) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch3) sset sset_disj sset_cover f).trans (Ring.bigSep_fin2 _))) $$ H
  icases H2 with ⟨H0, H1⟩
  isplitl [H0]
  · iexists f; iexact H0
  · iexists f; iexact H1
theorem obuf_join : (iprop((∃ f, oslotP c 0 f) ∗ (∃ f, oslotP c 1 f)) : sProp 𝕄)
    ⊢ iprop(∃ f : Buf (Elt F) ((c : Thread nD τ).loc cc0_scratch3), ((c : Thread nD τ).loc cc0_scratch3) ↦{fullShare} f) := by
  iintro ⟨⟨%f0, H0⟩, ⟨%f1, H1⟩⟩
  iapply (Ring.pointsTo_blocks_join_exists (ℓ := (c : Thread nD τ).loc cc0_scratch3) sset sset_disj sset_cover f0)
  irw [Ring.bigSep_fin2]
  isplitl [H0]
  · iexists f0; iexact H0
  · iexists f1; iexact H1

/-- A whole buffer held is its memref held. -/
theorem own_whole (b : Ref sig .tc) (f : Buf (Elt F) ((c : Thread nD τ).loc b)) :
    (((c : Thread nD τ).loc b) ↦{fullShare} f : sProp 𝕄) = ownP c (Memref.whole b) f :=
  congrArg (fun S => (((c : Thread nD τ).loc b) ↦[S]{fullShare} f : sProp 𝕄)) (View.set_whole b).symm

end Buffers

/-! ## The kernel's own semaphores -/

/-- W2's four, W1's one, Wout's two. -/
abbrev ownC : Fin 7 → SemLoc sig :=
  ![.dma (wsem 0 0).sem, .dma (wsem 0 1).sem, .dma (wsem 1 0).sem, .dma (wsem 1 1).sem, .dma w1sem.sem, .dma (osem 0).sem, .dma (osem 1).sem]
theorem ownSemFacts : Pipeline.OwnSemFacts spec0 ownC := by decide

omit [FloatOps F] in
theorem ownSems0_eq (c : Dev nD) : (Pipeline.ownSems0 (Ix := Unit) (Name := ℕ) (U := UU nD τ) (Lvl := ℕ) (Val := Elt F) (τ := τ) ownC c : sProp 𝕄)
    = iprop(wcellP c 0 0 ∗ wcellP c 0 1 ∗ wcellP c 1 0 ∗ wcellP c 1 1 ∗ semVal ((c : Thread nD τ), SemLoc.dma w1sem.sem) 0 ∗ ocellP c 0 ∗ ocellP c 1) := by
  unfold Pipeline.ownSems0
  exact bigSep_univ_eq_bigSepL [(0 : Fin 7), (1 : Fin 7), (2 : Fin 7), (3 : Fin 7), (4 : Fin 7), (5 : Fin 7), (6 : Fin 7)] (by decide) (by decide) _

end Cert.Proof.KI

end
-- ==== Proof.KI.Launch.lean ====
module

public import proofs.«01_k».proof.Proof.KI.Blocks
public import Idealize.ShloMosaic.Lib.Pipeline.KitQuiescent

@[expose] public section

/-! The whole program's run: the operations before the kernel, the kernel at its one grid point, and what memory and the
    semaphores hold at the end. -/

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The pipeline's proof data -/

abbrev X1 (c : Dev nD) : Buf (Elt F) (w1M.view.loc (c : Thread nD τ)) := V m c main_arg1
abbrev X2 (c : Dev nD) : Buf (Elt F) (w2M.view.loc (c : Thread nD τ)) := V m c main_arg3
abbrev XO (c : Dev nD) : Buf (Elt F) (woM.view.loc (c : Thread nD τ)) := V m c main_arg5

abbrev w1cellP (c : Dev nD) : sProp 𝕄 := semVal ((c : Thread nD τ), SemLoc.dma w1sem.sem) 0

/-- The region's invariant, the same before and after its one point: the arrays left in HBM whole, both slots free, W1's
    semaphore at zero, the other scratch buffers at anything. -/
def Φ (c : Dev nD) : sProp 𝕄 :=
  iprop(ownP c w1M (X1 m c) ∗ (bigSep Finset.univ (whomeP c (X2 m c) 0) ∗ bigSep Finset.univ (whomeP c (X2 m c) 1)) ∗ bigSep Finset.univ (ohomeP c (XO m c))
    ∗ FREE (F := F) c 0 ∗ FREE (F := F) c 1 ∗ w1cellP (F := F) c
    ∗ (∃ f, ownP (F := F) c hM f) ∗ (∃ f, ownP (F := F) c w1bufM f) ∗ (∃ f, ownP (F := F) c accM f))

abbrev st0 (t : Fin cfg0.N) : Memref sig .tc .vmem S256x512 .f32 := win0_0.stage (cfg0.slots t 0)
abbrev st1 (t : Fin cfg0.N) : Memref sig .tc .vmem S4x1x3968 .f32 := win0_1.stage (cfg0.slots t 1)
abbrev st2 (t : Fin cfg0.N) : Memref sig .tc .vmem S62x1x256 .f32 := win0_2.stage (cfg0.slots t 2)
abbrev st3 (t : Fin cfg0.N) : Memref sig .tc .vmem S992x32 .f32 := win0_3.stage (cfg0.slots t 3)
abbrev st4 (t : Fin cfg0.N) : Memref sig .tc .vmem S1x992 .f32 := win0_4.stage (cfg0.slots t 4)
abbrev st5 (t : Fin cfg0.N) : Memref sig .tc .vmem S256x32 .f32 := win0_5.stage (cfg0.slots t 5)
abbrev hst0 (t : Fin cfg0.N) : (st0 t).IsWhole := hstage0_0 0
abbrev hst1 (t : Fin cfg0.N) : (st1 t).IsWhole := hstage0_1 0
abbrev hst2 (t : Fin cfg0.N) : (st2 t).IsWhole := hstage0_2 0
abbrev hst3 (t : Fin cfg0.N) : (st3 t).IsWhole := hstage0_3 0
abbrev hst4 (t : Fin cfg0.N) : (st4 t).IsWhole := hstage0_4 0
abbrev hst5 (t : Fin cfg0.N) : (st5 t).IsWhole := hstage0_5 0

/-- The blocks the windows bring in. -/
abbrev bX (c : Dev nD) (t : Fin cfg0.N) : S256x512.Idx → Elt F .f32 := iblk m c 0 t
abbrev bB1 (c : Dev nD) (t : Fin cfg0.N) : S4x1x3968.Idx → Elt F .f32 := iblk m c 1 t
abbrev bB2 (c : Dev nD) (t : Fin cfg0.N) : S62x1x256.Idx → Elt F .f32 := iblk m c 2 t
abbrev bS (c : Dev nD) (t : Fin cfg0.N) : S992x32.Idx → Elt F .f32 := iblk m c 3 t
abbrev bBO (c : Dev nD) (t : Fin cfg0.N) : S1x992.Idx → Elt F .f32 := iblk m c 4 t

/-- The votes the kernel leaves. -/
def outAt (c : Dev nD) (t : Fin cfg0.N) : S256x32.Idx → Elt F .f32 :=
  outV c (X2 m c) (XO m c) (bX m c t) (w1M.view.read (Elt F) (X1 m c)) (bB1 m c t) (bB2 m c t) (bS m c t) (bBO m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = outAt m c t := by dsimp only [dats]

/-! ## The body obligation -/

/-- The body table's entry is the kernel on the point's staging memrefs. -/
theorem defs_tc : (defs₀ (F := F)) .tc cfg0.body
    = fun a => bodyG (win0_0.stage (a.2 0)) (hstage0_0 0) w1M (Memref.isWhole_whole _) (win0_1.stage (a.2 1)) (hstage0_1 0)
        (win0_2.stage (a.2 2)) (hstage0_2 0) (win0_3.stage (a.2 3)) (hstage0_3 0) (win0_4.stage (a.2 4)) (hstage0_4 0)
        (win0_5.stage (a.2 5)) (hstage0_5 0) hM (Memref.isWhole_whole _) w1bufM (Memref.isWhole_whole _) accM (Memref.isWhole_whole _) := rfl
abbrev bodyT (t : Fin cfg0.N) : Prog (TpuEff nD τ sig (Elt F) Λ₀ .tc) PUnit :=
  bodyG (st0 t) (hst0 t) w1M (Memref.isWhole_whole _) (st1 t) (hst1 t) (st2 t) (hst2 t) (st3 t) (hst3 t) (st4 t) (hst4 t)
    (st5 t) (hst5 t) hM (Memref.isWhole_whole _) w1bufM (Memref.isWhole_whole _) accM (Memref.isWhole_whole _)
theorem prog_eq (t : Fin cfg0.N) : (defs₀ (F := F)) .tc cfg0.body (cfg0.bodyArgs t (cfg0.slots t)) = bodyT t :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, after_w0, after_w1, after_w2, after_w3, after_w4, after_w5]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨H1, ⟨Hh0, Hh1⟩, Hho, HF0, HF1, Hw1, ⟨%g9, H9⟩, ⟨%g11, H11⟩, ⟨%g13, H13⟩⟩, ⟨%W, -, HW⟩, ⟨%d0, %g0, %e0, H0⟩, ⟨%d1, %g2, %e1, H2⟩, ⟨%d2, %g4, %e2, H4⟩, ⟨%d3, %g6, %e3, H6⟩, ⟨%d4, %g7, %e4, H7⟩, ⟨%d5, %g8, -, H8⟩⟩
  ihave Hh0' := (entails_of_eq (homes_zero (whomeP c (X2 m c) 0))) $$ Hh0
  ihave Hh1' := (entails_of_eq (homes_zero (whomeP c (X2 m c) 1))) $$ Hh1
  ihave Hho' := (entails_of_eq (homes_zero (ohomeP c (XO m c)))) $$ Hho
  icases Hh0' with ⟨Ha0, Hr0⟩
  icases Hh1' with ⟨Ha1, Hr1⟩
  icases Hho' with ⟨Hao, Hro⟩
  have eO : outV c (X2 m c) (XO m c) ((st0 t).view.read (Elt F) g0) (w1M.view.read (Elt F) (X1 m c)) ((st1 t).view.read (Elt F) g2)
      ((st2 t).view.read (Elt F) g4) ((st3 t).view.read (Elt F) g6) ((st4 t).view.read (Elt F) g7) = outAt m c t := by
    unfold outAt
    rw [e0, e1, e2, e3, e4]
  sl_rw [prog_eq t]
  iapply (wp_wand_r Idealize.ShloMosaic.frame (wpE (defs₀ (F := F)) 𝒱₀ (c : Thread nD τ) none))
  isplitl [H0 H1 H2 H4 H6 H7 H8 H9 H11 H13 Ha0 Ha1 Hao Hr0 Hr1 Hro HF0 HF1 Hw1 HW]
  · iapply (bodyRun c (X2 m c) (XO m c) (st0 t) (hst0 t) w1M (Memref.isWhole_whole _) (st1 t) (hst1 t) (st2 t) (hst2 t) (st3 t) (hst3 t) (st4 t) (hst4 t)
      (st5 t) (hst5 t) hM (Memref.isWhole_whole _) w1bufM (Memref.isWhole_whole _) accM (Memref.isWhole_whole _) g0 (X1 m c) g2 g4 g6 g7 g8 g9 g11 g13 W)
    isplitl [H0]; · iexact H0
    isplitl [H1]; · iexact H1
    isplitl [H2]; · iexact H2
    isplitl [H4]; · iexact H4
    isplitl [H6]; · iexact H6
    isplitl [H7]; · iexact H7
    isplitl [H8]; · iexact H8
    isplitl [H9]; · iexact H9
    isplitl [H11]; · iexact H11
    isplitl [H13]; · iexact H13
    isplitl [Ha0 Ha1 Hao]
    · isplitl [Ha0]; · iexact Ha0
      isplitl [Ha1]; · iexact Ha1
      iexact Hao
    isplitl [Hr0 Hr1 Hro]
    · iapply (entails_of_eq (homes_eq c (X2 m c) (XO m c) 0).symm)
      isplitl [Hr0]; · iexact Hr0
      isplitl [Hr1]; · iexact Hr1
      iexact Hro
    isplitl [HF0]; · iexact HF0
    isplitl [HF1]; · iexact HF1
    isplitl [Hw1]; · iexact Hw1
    iexact HW
  · iintro %u HP
    ihave HP' := (entails_of_eq (bodyPost_eq c (X2 m c) (XO m c) (st0 t) w1M (st1 t) (st2 t) (st3 t) (st4 t) (st5 t) hM w1bufM accM g0 (X1 m c) g2 g4 g6 g7)) $$ HP
    icases HP' with ⟨H0, H1, H2, H4, H6, H7, H8, H9, H11, H13, HH, HF0, HF1, Hw1, ⟨%W', HW⟩⟩
    ihave HH' := (entails_of_eq (homes_end c (X2 m c) (XO m c))) $$ HH
    icases HH' with ⟨Hh0, Hh1, Hho⟩
    isplitl [H1 Hh0 Hh1 Hho HF0 HF1 Hw1 H9 H11 H13]
    · isplitl [H1]; · iexact H1
      isplitl [Hh0 Hh1]
      · isplitl [Hh0]; · iexact Hh0
        iexact Hh1
      isplitl [Hho]; · iexact Hho
      isplitl [HF0]; · iexact HF0
      isplitl [HF1]; · iexact HF1
      isplitl [Hw1]; · iexact Hw1
      isplitl [H9]; · iexact H9
      isplitl [H11]; · iexact H11
      iexact H13
    isplitl [HW]
    · iexists W'; isplitr; · ipureintro; exact fun _ _ => Or.inl trivial
      iexact HW
    isplitl [H0]
    · iexists _; isplitr; · ipureintro; exact e0
      iexact H0
    isplitl [H2]
    · iexists _; isplitr; · ipureintro; exact e1
      iexact H2
    isplitl [H4]
    · iexists _; isplitr; · ipureintro; exact e2
      iexact H4
    isplitl [H6]
    · iexists _; isplitr; · ipureintro; exact e3
      iexact H6
    isplitl [H7]
    · iexists _; isplitr; · ipureintro; exact e4
      iexact H7
    iexists _; isplitr; · ipureintro; exact (View.read_rep _ _).trans eO
    iexact H8

/-! ## The run -/

def intoΦ (c : Dev nD) : sProp 𝕄 :=
  iprop(ownP c w1M (X1 m c) ∗ (bigSep Finset.univ (whomeP c (X2 m c) 0) ∗ bigSep Finset.univ (whomeP c (X2 m c) 1)) ∗ bigSep Finset.univ (ohomeP c (XO m c))
    ∗ Pipeline.ownSems0 ownC c)
def outOfΦ (c : Dev nD) : sProp 𝕄 :=
  iprop((((c : Thread nD τ).loc main_arg1) ↦{fullShare} V m c main_arg1) ∗ (((c : Thread nD τ).loc main_arg3) ↦{fullShare} V m c main_arg3)
    ∗ (((c : Thread nD τ).loc main_arg5) ↦{fullShare} V m c main_arg5))
/-- The arguments no window and no transfer touches. -/
def keptP (c : Dev nD) : sProp 𝕄 :=
  iprop((((c : Thread nD τ).loc main_arg2) ↦{fullShare} V m c main_arg2) ∗ (((c : Thread nD τ).loc main_arg4) ↦{fullShare} V m c main_arg4)
    ∗ (((c : Thread nD τ).loc main_arg6) ↦{fullShare} V m c main_arg6))
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  (s.mem ((c : Thread nD τ).loc main_arg1) = V m c main_arg1 ∧ s.mem ((c : Thread nD τ).loc main_arg3) = V m c main_arg3
    ∧ s.mem ((c : Thread nD τ).loc main_arg5) = V m c main_arg5)
  ∧ s.mem ((c : Thread nD τ).loc main_arg2) = V m c main_arg2 ∧ s.mem ((c : Thread nD τ).loc main_arg4) = V m c main_arg4
    ∧ s.mem ((c : Thread nD τ).loc main_arg6) = V m c main_arg6
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- For any float values, from any memory with zero counters: every weakly fair execution of the program terminates, and
    every final state has each window's array at its computed contents, the other arguments as they were when the kernel was
    entered, and every semaphore counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := keptP m)
    (hX := fun c => by
      rw [unscopedRest0_eq]
      unfold intoΦ keptP
      iintro ⟨⟨H1, H2, H3, H4, H5, H6⟩, HS, -, -, -⟩
      imodintro
      isplitl [H1 H3 H5 HS]
      · isplitl [H1]; · iapply (entails_of_eq (own_whole c main_arg1 _)); iexact H1
        isplitl [H3]; · iapply (entails_of_eq (w2_eq c (X2 m c))); iexact H3
        isplitl [H5]; · iapply (entails_of_eq (wo_eq c (XO m c))); iexact H5
        iexact HS
      isplitl [H2]; · iexact H2
      isplitl [H4]; · iexact H4
      iexact H6)
    (hin := fun c => by
      rw [scopedRest0_eq, show (dats m 0 c).Φ 0 = Φ m c from rfl]
      unfold intoΦ Φ FREE
      rw [ownSems0_eq]
      iintro ⟨⟨H1, H3, H5, C00, C01, C10, C11, Cw, Co0, Co1⟩, ⟨⟨%f0, B0⟩, B1, ⟨%f2, B2⟩, B3, ⟨%f4, B4⟩⟩⟩
      ihave B1' := (wbuf_split c) $$ B1
      ihave B3' := (obuf_split c) $$ B3
      icases B1' with ⟨⟨W00, W01⟩, W10, W11⟩
      icases B3' with ⟨O0, O1⟩
      isplitl [H1]; · iexact H1
      isplitl [H3]; · iexact H3
      isplitl [H5]; · iexact H5
      isplitl [W00 W01 O0 C00 C01 Co0]
      · isplitl [W00 W01 O0]
        · isplitl [W00]; · iexact W00
          isplitl [W01]; · iexact W01
          iexact O0
        isplitl [C00]; · iexact C00
        isplitl [C01]; · iexact C01
        iexact Co0
      isplitl [W10 W11 O1 C10 C11 Co1]
      · isplitl [W10 W11 O1]
        · isplitl [W10]; · iexact W10
          isplitl [W11]; · iexact W11
          iexact O1
        isplitl [C10]; · iexact C10
        isplitl [C11]; · iexact C11
        iexact Co1
      isplitl [Cw]; · iexact Cw
      isplitl [B0]; · iexists f0; iapply (entails_of_eq (own_whole c cc0_scratch0 f0)); iexact B0
      isplitl [B2]; · iexists f2; iapply (entails_of_eq (own_whole c cc0_scratch2 f2)); iexact B2
      iexists f4; iapply (entails_of_eq (own_whole c cc0_scratch4 f4)); iexact B4)
    (hout := fun c => by
      rw [scopedRest0_eq, show (dats m 0 c).Φ (Fin.last cfg0.N) = Φ m c from rfl, ownSems0_eq]
      unfold outOfΦ Φ FREE
      iintro ⟨H1, H3, H5, ⟨⟨W00, W01, O0⟩, C00, C01, Co0⟩, ⟨⟨W10, W11, O1⟩, C10, C11, Co1⟩, Cw, ⟨%f0, B0⟩, ⟨%f2, B2⟩, ⟨%f4, B4⟩⟩
      isplitl [H1 H3 H5]
      · isplitl [H1]; · iapply (entails_of_eq (own_whole c main_arg1 (X1 m c)).symm); iexact H1
        isplitl [H3]; · iapply (entails_of_eq (w2_eq c (X2 m c)).symm); iexact H3
        iapply (entails_of_eq (wo_eq c (XO m c)).symm); iexact H5
      isplitl [C00 C01 C10 C11 Cw Co0 Co1]
      · isplitl [C00]; · iexact C00
        isplitl [C01]; · iexact C01
        isplitl [C10]; · iexact C10
        isplitl [C11]; · iexact C11
        isplitl [Cw]; · iexact Cw
        isplitl [Co0]; · iexact Co0
        iexact Co1
      isplitl [B0]; · iexists f0; iapply (entails_of_eq (own_whole c cc0_scratch0 f0).symm); iexact B0
      isplitl [W00 W01 W10 W11]
      · iapply (wbuf_join c)
        isplitl [W00 W01]
        · isplitl [W00]; · iexact W00
          iexact W01
        isplitl [W10]; · iexact W10
        iexact W11
      isplitl [B2]; · iexists f2; iapply (entails_of_eq (own_whole c cc0_scratch2 f2).symm); iexact B2
      isplitl [O0 O1]
      · iapply (obuf_join c)
        isplitl [O0]; · iexact O0
        iexact O1
      iexists f4; iapply (entails_of_eq (own_whole c cc0_scratch4 f4).symm); iexact B4)
    (QY := QY m)
    (hY := fun c s' => by
      unfold outOfΦ keptP
      iintro ⟨⟨H1, H3, H5⟩, ⟨H2, H4, H6⟩, HSI⟩
      icombine HSI H1 gives %h1
      icombine HSI H3 gives %h3
      icombine HSI H5 gives %h5
      icombine HSI H2 gives %h2
      icombine HSI H4 gives %h4
      icombine HSI H6 gives %h6
      imodintro
      isplitr
      · ipureintro
        exact ⟨⟨Buf.eq_of_forall_mem_univ h1, Buf.eq_of_forall_mem_univ h3, Buf.eq_of_forall_mem_univ h5⟩,
          Buf.eq_of_forall_mem_univ h2, Buf.eq_of_forall_mem_univ h4, Buf.eq_of_forall_mem_univ h6⟩
      iexact HSI)
    (hQ := fun _ hh hz => ⟨hh, hz⟩)

/-- An input window's array ends at what it held when the kernel was entered. -/
theorem finalA_in (c : Dev nD) (w : Fin cfg0.W) (hw : (cfg0.win w).isOut = false) : finalA m c w = V m c (Pipeline.arrRef spec0 w) :=
  (dats (F := F) m 0 c).arrAt_in w hw _

/-- Memory at the end: the arguments unchanged. -/
theorem args_kept (c : Dev nD) {r : PUnit × MemSt nD τ sig (Elt F)} (h : QC m r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) := by
  obtain ⟨hw, ⟨h1, h3, h5⟩, h2, h4, h6⟩ := h c
  exact ⟨(hw 0).trans ((finalA_in m c 0 rfl).trans (V_main_arg0 m c)), h1.trans (V_main_arg1 m c), h2.trans (V_main_arg2 m c), h3.trans (V_main_arg3 m c),
    h4.trans (V_main_arg4 m c), h5.trans (V_main_arg5 m c), h6.trans (V_main_arg6 m c)⟩

/-- The program runs, and ends with its arguments unchanged and every semaphore counter at zero. -/
theorem quiescent : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun _ hh => ⟨fun c => args_kept m c hh.1, hh.2⟩) (run_main m ρ)

end Cert.Proof.KI

end
-- ==== Proof.Frames.lean ====
/- The three frames: the kernel as its chip runs it, the kernel over the extended reals, and the reference over the
   extended reals each run to the end, leave their arguments as they found them and every semaphore counter at zero. -/
module

public import proofs.«01_k».proof.Defs
public import proofs.«01_k».proof.Proof.Gen.ReferenceIdeal.Run
public import proofs.«01_k».proof.Proof.KI.Launch
public import proofs.«01_k».proof.Proof.KB.Launch
public import Idealize.ShloMosaic.Lib.Quiescent

@[expose] public section

noncomputable section

namespace Cert.Proof

open Idealize.ShloMosaic Idealize.SL.Sem

/-- The kernel on words: it runs, its arguments are unchanged, every counter is zero. -/
theorem frame_kernel : Cert.quiescent_Kernel (hKernel := Cert.Kernel.Gen.facts) := fun m g _ => KB.quiescent m g

/-- The kernel over the extended reals: it runs, its arguments are unchanged, every counter is zero. -/
theorem frame_kernelIdeal : Cert.quiescent_KernelIdeal (hKernelIdeal := Cert.KernelIdeal.Gen.facts) := fun m g _ => KI.quiescent m g

/-- The reference over the extended reals: it runs, its arguments are unchanged; it declares no semaphore. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Value.Table.lean ====
/- The literal tables of the two programs. The kernel carries a 992 × 32 matrix of zeros and ones, the reference two
   tables of 496 candidate numbers; row n of the matrix has its one in the column of the candidate that output column n
   votes for: the first table's entry for even n, the second's for odd n. -/
module

public import proofs.«01_k».proof.KernelIdeal
public import proofs.«01_k».proof.ReferenceIdeal

@[expose] public section

noncomputable section

namespace Cert.Proof.Value

open Idealize.ShloMosaic

/-- The candidate that output column `n` votes for, as the reference's two tables say: the pair is `n / 2`, its first
    member for even `n` and its second for odd `n`. -/
def cand (n : ℕ) : BitVec 32 := if n % 2 = 0 then Cert.ReferenceIdeal.lit0t (n / 2) else Cert.ReferenceIdeal.lit1t (n / 2)

/-- The matrix's entry in row `32 a + b` and column `c` is the word of 1.0 when that row votes for `c`, else of 0.0. -/
abbrev Entry (a b c : ℕ) : Prop :=
  Cert.KernelIdeal.lit0t (a * 1024 + b * 32 + c) = if cand (a * 32 + b) = BitVec.ofNat 32 c then 0x3F800000#32 else 0x00000000#32

/-- The 0/1 matrix against the candidates, rows 0 to 127. -/
theorem rows0 : ∀ a : Fin 4, ∀ b : Fin 32, ∀ c : Fin 32, Entry (0 + a.1) b.1 c.1 := by decide +kernel

/-- The 0/1 matrix against the candidates, rows 128 to 255. -/
theorem rows1 : ∀ a : Fin 4, ∀ b : Fin 32, ∀ c : Fin 32, Entry (4 + a.1) b.1 c.1 := by decide +kernel

/-- The 0/1 matrix against the candidates, rows 256 to 383. -/
theorem rows2 : ∀ a : Fin 4, ∀ b : Fin 32, ∀ c : Fin 32, Entry (8 + a.1) b.1 c.1 := by decide +kernel

/-- The 0/1 matrix against the candidates, rows 384 to 511. -/
theorem rows3 : ∀ a : Fin 4, ∀ b : Fin 32, ∀ c : Fin 32, Entry (12 + a.1) b.1 c.1 := by decide +kernel

/-- The 0/1 matrix against the candidates, rows 512 to 639. -/
theorem rows4 : ∀ a : Fin 4, ∀ b : Fin 32, ∀ c : Fin 32, Entry (16 + a.1) b.1 c.1 := by decide +kernel

/-- The 0/1 matrix against the candidates, rows 640 to 767. -/
theorem rows5 : ∀ a : Fin 4, ∀ b : Fin 32, ∀ c : Fin 32, Entry (20 + a.1) b.1 c.1 := by decide +kernel

/-- The 0/1 matrix against the candidates, rows 768 to 895. -/
theorem rows6 : ∀ a : Fin 4, ∀ b : Fin 32, ∀ c : Fin 32, Entry (24 + a.1) b.1 c.1 := by decide +kernel

/-- The 0/1 matrix against the candidates, rows 896 to 991. -/
theorem rows7 : ∀ a : Fin 3, ∀ b : Fin 32, ∀ c : Fin 32, Entry (28 + a.1) b.1 c.1 := by decide +kernel

/-- The 0/1 matrix against the candidates, at every row and column. -/
theorem entry (a : Fin 31) (b c : Fin 32) : Entry a.1 b.1 c.1 := by
  obtain ⟨a, ha⟩ := a
  by_cases h0 : a < 4
  · have h := rows0 ⟨a, h0⟩ b c
    rwa [Nat.zero_add] at h
  by_cases h1 : a < 8
  · have h := rows1 ⟨a - 4, by omega⟩ b c
    rwa [show 4 + (a - 4) = a by omega] at h
  by_cases h2 : a < 12
  · have h := rows2 ⟨a - 8, by omega⟩ b c
    rwa [show 8 + (a - 8) = a by omega] at h
  by_cases h3 : a < 16
  · have h := rows3 ⟨a - 12, by omega⟩ b c
    rwa [show 12 + (a - 12) = a by omega] at h
  by_cases h4 : a < 20
  · have h := rows4 ⟨a - 16, by omega⟩ b c
    rwa [show 16 + (a - 16) = a by omega] at h
  by_cases h5 : a < 24
  · have h := rows5 ⟨a - 20, by omega⟩ b c
    rwa [show 20 + (a - 20) = a by omega] at h
  by_cases h6 : a < 28
  · have h := rows6 ⟨a - 24, by omega⟩ b c
    rwa [show 24 + (a - 24) = a by omega] at h
  have h := rows7 ⟨a - 28, by omega⟩ b c
  rwa [show 28 + (a - 28) = a by omega] at h

/-- Row `n` of the matrix votes for `cand n`. -/
theorem member (n : Fin 992) (c : Fin 32) :
    Cert.KernelIdeal.lit0t (n.1 * 32 + c.1) = if cand n.1 = BitVec.ofNat 32 c.1 then 0x3F800000#32 else 0x00000000#32 := by
  have h := entry ⟨n.1 / 32, by omega⟩ ⟨n.1 % 32, by omega⟩ c
  have e1 : n.1 / 32 * 1024 + n.1 % 32 * 32 + c.1 = n.1 * 32 + c.1 := by omega
  have e2 : n.1 / 32 * 32 + n.1 % 32 = n.1 := by omega
  simp only [Entry, e1, e2] at h
  exact h

/-- The first table's candidates are among the 32. -/
theorem first_lt : ∀ t : Fin 496, (Cert.ReferenceIdeal.lit0t t.1).toNat < 32 := by decide +kernel

/-- The second table's candidates are among the 32. -/
theorem second_lt : ∀ t : Fin 496, (Cert.ReferenceIdeal.lit1t t.1).toNat < 32 := by decide +kernel

end Cert.Proof.Value

end
-- ==== Proof.Value.Spec.lean ====
/- What both programs compute, as plain sums over the extended reals, and three facts about such sums: a product of two
   matrices read at an index, and a sum over a long axis as the sum of the sums over its blocks. -/
module

public import Idealize.ShloMosaic.Lib.ValueIdx
public import Idealize.ShloMosaic.Lib.MatmulPlain
public import Idealize.ShloMosaic.Lib.KernelVsHost
public import Idealize.ShloMosaic.Lib.Pipeline.Value

@[expose] public section

noncomputable section

namespace Cert.Proof.Value

open Idealize.ShloMosaic Idealize.ShloMosaic.ValueIdx
open scoped BigOperators

/-- A matrix of extended reals. -/
abbrev Mat (m n : ℕ) : Type := (⟨2, ![m, n]⟩ : Shape).Idx → EReal

/-- A vector of extended reals. -/
abbrev Row (n : ℕ) : Type := (⟨1, ![n]⟩ : Shape).Idx → EReal

/-- One layer: a matrix product, a bias, and zero in the place of what is negative. -/
def layer {m k n : ℕ} (x : Mat m k) (w : Mat k n) (b : Row n) : Mat m n :=
  fun y => max ((∑ i : Fin k, x (ix2 (y 0) i) * w (ix2 i (y 1))) + b (ix1 (y 1))) 0

theorem layer_apply {m k n : ℕ} (x : Mat m k) (w : Mat k n) (b : Row n) (p : Fin m) (q : Fin n) :
    layer x w b (ix2 p q) = max ((∑ i : Fin k, x (ix2 p i) * w (ix2 i q)) + b (ix1 q)) 0 := rfl

/-- The 992 outputs of the last product, two a pair of candidates. -/
def outputs (x : Mat 256 512) (w1 : Mat 512 15872) (b1 : Row 15872) (w2 : Mat 15872 15872) (b2 : Row 15872)
    (wo : Mat 15872 992) (bo : Row 992) (p : Fin 256) (n : Fin 992) : EReal :=
  (∑ q : Fin 15872, layer (layer x w1 b1) w2 b2 (ix2 p q) * wo (ix2 q n)) + bo (ix1 n)

/-- The votes for candidate `c`: the sum of the outputs that vote for it, output `n` voting for `who n`. -/
def votes (who : ℕ → BitVec 32) (x : Mat 256 512) (w1 : Mat 512 15872) (b1 : Row 15872) (w2 : Mat 15872 15872) (b2 : Row 15872)
    (wo : Mat 15872 992) (bo : Row 992) : Mat 256 32 :=
  fun y => ∑ n : Fin 992, if who n.1 = BitVec.ofNat 32 (y 1).val then outputs x w1 b1 w2 b2 wo bo (y 0) n else 0

/-- Equal arguments have equal votes. -/
theorem votes_congr (who : ℕ → BitVec 32) {x x' : Mat 256 512} {w1 w1' : Mat 512 15872} {b1 b1' : Row 15872}
    {w2 w2' : Mat 15872 15872} {b2 b2' : Row 15872} {wo wo' : Mat 15872 992} {bo bo' : Row 992}
    (ex : x = x') (ew1 : w1 = w1') (eb1 : b1 = b1') (ew2 : w2 = w2') (eb2 : b2 = b2') (ewo : wo = wo') (ebo : bo = bo') :
    votes who x w1 b1 w2 b2 wo bo = votes who x' w1' b1' w2' b2' wo' bo' := by
  subst ex ew1 eb1 ew2 eb2 ewo ebo
  rfl

/-- A kernel's product of two matrices onto zeros, read at an index. -/
theorem matmul_at {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, (l (ix2 p k) : EReal) * (r (ix2 k q) : EReal) := by
  subst hd
  refine (Ideal.matmul_plain_apply none l r _ p q).trans ?_
  rw [constant_apply, Ideal.ofBits_zero_f32, zero_add]

/-- The host's product of two matrices, read at an index. -/
theorem dot_at {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (q : Fin N) :
    (Host.dotGeneral d none l r : FVec Ideal ⟨2, ![M, N]⟩ .f32) (ix2 p q) = ∑ k : Fin K, (l (ix2 p k) : EReal) * (r (ix2 k q) : EReal) := by
  rw [← matmul_zero_eq_dotGeneral]
  exact matmul_at d hd l r p q

/-- A sum over `a · b` positions, block by block: position `r` of block `j` is `b j + r`. -/
theorem sum_blocks {M : Type} [AddCommMonoid M] {a b n : ℕ} (h : a * b = n) (f : Fin n → M) :
    ∑ q : Fin n, f q = ∑ j : Fin a, ∑ r : Fin b, f ⟨b * j.val + r.val, by
      subst h; have hj := j.isLt; have hr := r.isLt
      calc b * j.val + r.val < b * j.val + b := by omega
        _ = b * (j.val + 1) := by ring
        _ ≤ b * a := Nat.mul_le_mul_left b hj
        _ = a * b := Nat.mul_comm _ _⟩ := by
  subst h
  rw [← Equiv.sum_comp finProdFinEquiv, Fintype.sum_prod_type]
  refine Finset.sum_congr rfl fun j _ => Finset.sum_congr rfl fun r _ => congrArg f (Fin.ext ?_)
  show r.val + b * j.val = b * j.val + r.val
  exact Nat.add_comm _ _

end Cert.Proof.Value

end
-- ==== Proof.Value.KernelSide.lean ====
/- The value the kernel leaves, as the plain sums of `Spec`: the hidden layer is the first layer column by column, the
   accumulator after `k` blocks is the sum over those blocks, and the last product picks out the outputs by the 0/1 matrix. -/
module

public import proofs.«01_k».proof.Proof.Value.Spec
public import proofs.«01_k».proof.Proof.KI.Hidden

@[expose] public section

set_option maxRecDepth 16384

noncomputable section

namespace Cert.Proof.Value

open Cert.KernelIdeal Cert.KernelIdeal.Gen Cert.Proof.KI
open Idealize.ShloMosaic Idealize.ShloMosaic.TcCoe Idealize.ShloMosaic.ValueIdx
open scoped BigOperators

/-- A block's first unit axis dropped, read at an index. -/
theorem drop_at {α : Type} {a b : ℕ} (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) := by
  refine (shapeCast_dropUnit_apply ![a, b] v h (ix2 p q)).trans (congrArg v ?_)
  funext d
  fin_cases d <;> rfl

/-- One row spread over many, read at an index. -/
theorem spread_at {α : Type} {a b : ℕ} (hb1 : b ≠ 1) (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h _ _ fun d => ?_
  fin_cases d
  · rfl
  · show q.val = if b = 1 then 0 else q.val
    rw [if_neg hb1]

/-- A chunk of the hidden layer, read at an index. -/
theorem pay6_at (x : S256x512.Idx → EReal) (w : S1x512x3968.Idx → EReal) (b : S1x1x3968.Idx → EReal) (p : Fin 256) (q : Fin 3968) :
    k0_pay6 (F := Ideal) (k0_pay5 x) w b (ix2 p q)
      = max ((∑ i : Fin 512, x (ix2 p i) * w (ix3 0 i q)) + b (ix3 0 0 q)) 0 := by
  unfold k0_pay6 k0_pay5
  rw [shapeCast_self]
  rw [truncf_apply, maximumf_apply, addf_apply, matmul_at dot_S256x512_S512x3968_S256x3968_1_0_0_1_n_n rfl, spread_at (by decide), drop_at, broadcast_apply]
  refine congrArg₂ max (congrArg (· + _) (Finset.sum_congr rfl fun i _ => ?_)) Ideal.ofBits_zero_f32
  rw [truncf_apply, truncf_apply, drop_at]

/-- A block of the second layer, read at an index. -/
theorem pay4_at (h : S256x15872.Idx → EReal) (w : S1x15872x256.Idx → EReal) (b : S1x1x256.Idx → EReal) (p : Fin 256) (q : Fin 256) :
    k0_pay4 (F := Ideal) h w b (ix2 p q)
      = max ((∑ i : Fin 15872, h (ix2 p i) * w (ix3 0 i q)) + b (ix3 0 0 q)) 0 := by
  unfold k0_pay4
  rw [maximumf_apply, addf_apply, matmul_at dot_S256x15872_S15872x256_S256x256_1_0_0_1_n_n rfl, spread_at (by decide), drop_at, broadcast_apply]
  refine congrArg₂ max (congrArg (· + _) (Finset.sum_congr rfl fun i _ => ?_)) Ideal.ofBits_zero_f32
  rw [truncf_apply, drop_at]

/-- One block's product added to the accumulator, read at an index. -/
theorem pay2_at (u : S256x256.Idx → EReal) (a : S256x992.Idx → EReal) (o : S1x256x992.Idx → EReal) (p : Fin 256) (n : Fin 992) :
    k0_pay2 (F := Ideal) u a o (ix2 p n) = a (ix2 p n) + ∑ r : Fin 256, u (ix2 p r) * o (ix3 0 r n) := by
  unfold k0_pay2
  rw [shapeCast_self, addf_apply, matmul_at dot_S256x256_S256x992_S256x992_1_0_0_1_n_n rfl]
  refine congrArg (a (ix2 p n) + ·) (Finset.sum_congr rfl fun r _ => ?_)
  rw [truncf_apply, truncf_apply, drop_at]

/-- The last product, read at an index. -/
theorem pay3_at (s : S992x32.Idx → EReal) (a : S256x992.Idx → EReal) (b : S1x992.Idx → EReal) (p : Fin 256) (k : Fin 32) :
    k0_pay3 (F := Ideal) s a b (ix2 p k)
      = (∑ n : Fin 992, a (ix2 p n) * s (ix2 n k)) + ∑ n : Fin 992, b (ix2 0 n) * s (ix2 n k) := by
  unfold k0_pay3
  rw [shapeCast_self]
  try rw [shapeCast_self]
  rw [addf_apply, matmul_at dot_S256x992_S992x32_S256x32_1_0_0_1_n_n rfl, spread_at (by decide), matmul_at dot_S1x992_S992x32_S1x32_1_0_0_1_n_n rfl]
  rfl

/-- The hidden layer is the first layer. -/
theorem hV_at (x : Mat 256 512) (w : Mat 512 15872) (B : S4x1x3968.Idx → EReal) (b1 : Row 15872)
    (hB : ∀ (j : Fin 4) (r : Fin 3968), B (ix3 j 0 r) = b1 (ix1 ⟨3968 * j.val + r.val, by omega⟩)) (p : Fin 256) (q : Fin 15872) :
    hV (F := Ideal) x w B (ix2 p q) = layer x w b1 (ix2 p q) := by
  have e : 3968 * (q.val / 3968) + q.val % 3968 = q.val := Nat.div_add_mod _ _
  refine (pay6_at x (w1V (F := Ideal) w ⟨q.val / 3968, by omega⟩) (b1V (F := Ideal) B ⟨q.val / 3968, by omega⟩) p
    ⟨q.val % 3968, Nat.mod_lt _ (by norm_num)⟩).trans ?_
  rw [layer_apply]
  refine congrArg₂ max (congrArg₂ (· + ·) (Finset.sum_congr rfl fun i _ => ?_) ?_) rfl
  · exact congrArg (fun k => x (ix2 p i) * w (ix2 i k)) (Fin.ext e)
  · exact (hB _ _).trans (congrArg (fun k => b1 (ix1 k)) (Fin.ext e))

variable (c : Dev nD) (X2 : Mat 15872 15872) (XO : Mat 15872 992)

/-- One trip adds one block's share of the last product. -/
theorem stepV_at (H : Mat 256 15872) (B : S62x1x256.Idx → EReal) (b2 : Row 15872)
    (hB : ∀ (j : Fin 62) (r : Fin 256), B (ix3 j 0 r) = b2 (ix1 ⟨256 * j.val + r.val, by omega⟩))
    (k : ℕ) (a : Mat 256 992) (p : Fin 256) (n : Fin 992) :
    stepV (F := Ideal) c X2 XO H B k a (ix2 p n)
      = a (ix2 p n) + ∑ r : Fin 256, layer H X2 b2 (ix2 p ⟨256 * (Ring.bk 62 k).val + r.val, by omega⟩)
          * XO (ix2 ⟨256 * (Ring.bk 62 k).val + r.val, by omega⟩ n) := by
  refine (pay2_at _ a _ p n).trans (congrArg (a (ix2 p n) + ·) (Finset.sum_congr rfl fun r _ => congrArg₂ (· * ·) ?_ rfl))
  refine (pay4_at H _ _ p r).trans ?_
  rw [layer_apply]
  exact congrArg₂ max (congrArg₂ (· + ·) rfl (hB _ _)) rfl

/-- The accumulator before trip `k` is the sum over the blocks gone through. -/
theorem accV_at (H : Mat 256 15872) (B : S62x1x256.Idx → EReal) (b2 : Row 15872)
    (hB : ∀ (j : Fin 62) (r : Fin 256), B (ix3 j 0 r) = b2 (ix1 ⟨256 * j.val + r.val, by omega⟩))
    (p : Fin 256) (n : Fin 992) : ∀ k : ℕ,
    accV (F := Ideal) c X2 XO H B k (ix2 p n)
      = ∑ j ∈ Finset.range k, ∑ r : Fin 256, layer H X2 b2 (ix2 p ⟨256 * (Ring.bk 62 j).val + r.val, by omega⟩)
          * XO (ix2 ⟨256 * (Ring.bk 62 j).val + r.val, by omega⟩ n)
  | 0 => by
    rw [Finset.sum_range_zero]
    show k0_pay1 (F := Ideal) k0_pay12 (ix2 p n) = 0
    unfold k0_pay1 k0_pay12
    rw [shapeCast_self]
    exact Ideal.ofBits_zero_f32
  | k + 1 => by
    rw [Finset.sum_range_succ, ← accV_at H B b2 hB p n k]
    exact stepV_at c X2 XO H B b2 hB k _ p n

/-- The accumulator at the end is the whole last product, less its bias. -/
theorem accV_end (H : Mat 256 15872) (B : S62x1x256.Idx → EReal) (b2 : Row 15872)
    (hB : ∀ (j : Fin 62) (r : Fin 256), B (ix3 j 0 r) = b2 (ix1 ⟨256 * j.val + r.val, by omega⟩))
    (p : Fin 256) (n : Fin 992) :
    accV (F := Ideal) c X2 XO H B 62 (ix2 p n) = ∑ q : Fin 15872, layer H X2 b2 (ix2 p q) * XO (ix2 q n) := by
  rw [accV_at c X2 XO H B b2 hB p n 62, Finset.sum_range,
    sum_blocks (a := 62) (b := 256) (by norm_num) (fun q : Fin 15872 => layer H X2 b2 (ix2 p q) * XO (ix2 q n))]
  refine Finset.sum_congr rfl fun j _ => Finset.sum_congr rfl fun r _ => ?_
  have e : Ring.bk 62 j.val = j := Fin.ext (Nat.mod_eq_of_lt j.isLt)
  exact congrArg (fun q => layer H X2 b2 (ix2 p q) * XO (ix2 q n)) (Fin.ext (congrArg (fun b : Fin 62 => 256 * b.val + r.val) e))

/-- The result: the votes. -/
theorem outV_at (x : Mat 256 512) (w : Mat 512 15872) (B1 : S4x1x3968.Idx → EReal) (b1 : Row 15872)
    (hB1 : ∀ (j : Fin 4) (r : Fin 3968), B1 (ix3 j 0 r) = b1 (ix1 ⟨3968 * j.val + r.val, by omega⟩))
    (B2 : S62x1x256.Idx → EReal) (b2 : Row 15872)
    (hB2 : ∀ (j : Fin 62) (r : Fin 256), B2 (ix3 j 0 r) = b2 (ix1 ⟨256 * j.val + r.val, by omega⟩))
    (S : Mat 992 32) (who : ℕ → BitVec 32) (hS : ∀ (n : Fin 992) (k : Fin 32), S (ix2 n k) = if who n.val = BitVec.ofNat 32 k.val then 1 else 0)
    (BO : Mat 1 992) (bo : Row 992) (hBO : ∀ n : Fin 992, BO (ix2 0 n) = bo (ix1 n)) (p : Fin 256) (k : Fin 32) :
    outV (F := Ideal) c X2 XO x w B1 B2 S BO (ix2 p k) = votes who x w b1 X2 b2 XO bo (ix2 p k) := by
  have hH : hV (F := Ideal) x w B1 = layer x w b1 := funext fun y => by rw [eq_ix2 y]; exact hV_at x w B1 b1 hB1 _ _
  refine (pay3_at S _ BO p k).trans ?_
  rw [hH, ← Finset.sum_add_distrib]
  refine Finset.sum_congr rfl fun n _ => ?_
  rw [accV_end c X2 XO (layer x w b1) B2 b2 hB2 p n, hS, hBO]
  show _ = if who n.val = BitVec.ofNat 32 k.val then outputs x w b1 X2 b2 XO bo p n else 0
  split
  · rw [mul_one, mul_one]; rfl
  · rw [mul_zero, mul_zero, add_zero]

end Cert.Proof.Value

end
-- ==== Proof.Value.KernelRun.lean ====
/- What the kernel's run leaves in the array of votes: the votes of `Spec`, of the arguments it was launched with. -/
module

public import proofs.«01_k».proof.Proof.Value.KernelSide
public import proofs.«01_k».proof.Proof.KI.Launch
public import Idealize.ShloMosaic.Lib.IdealHost
public import Idealize.ShloMosaic.Lib.Pipeline.ValueKit.Geometry

@[expose] public section

set_option maxRecDepth 16384

noncomputable section

namespace Cert.Proof.Value

open Cert.KernelIdeal Cert.KernelIdeal.Gen Cert.Proof.KI
open Idealize.ShloMosaic Idealize.ShloMosaic.TcCoe Idealize.ShloMosaic.ValueIdx
open scoped BigOperators

variable (m : (ℓ : Loc nD τ sig) → Buf (Elt Ideal) ℓ) (c : Dev nD)

/-! ## The arrays the kernel is given -/

theorem V_v0 : V m c main_v0 = shapeCast S4x1x3968 (m ((c : Thread nD τ).loc main_arg2)) shapeCasts_S15872_S4x1x3968 := by
  dsimp only [V, hostOps0]; after_results; rfl

theorem V_v1 : V m c main_v1 = shapeCast S62x1x256 (m ((c : Thread nD τ).loc main_arg4)) shapeCasts_S15872_S62x1x256 := by
  dsimp only [V, hostOps0]; after_results; rfl

theorem V_v2 : V m c main_v2 = shapeCast S1x992 (m ((c : Thread nD τ).loc main_arg6)) shapeCasts_S992_S1x992 := by
  dsimp only [V, hostOps0]; after_results; rfl

theorem V_cst : V m c main_cst = fun i => FloatOps.ofBits (F := Ideal) .f32 (lit0 (S992x32.rowMajor i)) := by
  dsimp only [V, hostOps0]; after_results; rfl

/-! ## The kernel's blocks are those arrays -/

variable (t : Fin cfg0.N)

theorem bX_eq : bX m c t = m ((c : Thread nD τ).loc main_arg0) := by
  rw [← V_main_arg0 m c]
  exact funext fun y => congrArg (V m c main_arg0) (funext fun a => Fin.ext ((cfg0.win 0).rect_emb_val_of_index_zero t a rfl y))

theorem bB1_eq : bB1 m c t = V m c main_v0 :=
  funext fun y => congrArg (V m c main_v0) (funext fun a => Fin.ext ((cfg0.win 1).rect_emb_val_of_index_zero t a rfl y))

theorem bB2_eq : bB2 m c t = V m c main_v1 :=
  funext fun y => congrArg (V m c main_v1) (funext fun a => Fin.ext ((cfg0.win 2).rect_emb_val_of_index_zero t a rfl y))

theorem bS_eq : bS m c t = V m c main_cst :=
  funext fun y => congrArg (V m c main_cst) (funext fun a => Fin.ext ((cfg0.win 3).rect_emb_val_of_index_zero t a rfl y))

theorem bBO_eq : bBO m c t = V m c main_v2 :=
  funext fun y => congrArg (V m c main_v2) (funext fun a => Fin.ext ((cfg0.win 4).rect_emb_val_of_index_zero t a rfl y))

/-! ## Read at an index -/

theorem b1_at (j : Fin 4) (r : Fin 3968) :
    bB1 m c t (ix3 j 0 r) = m ((c : Thread nD τ).loc main_arg2) (ix1 ⟨3968 * j.val + r.val, by omega⟩) := by
  rw [bB1_eq, V_v0]
  refine shapeCast_apply _ _ _ _ ?_
  refine (Shape.rowMajor_val_one _).trans (Eq.trans ?_ (Shape.rowMajor_val_three _).symm)
  show 3968 * j.val + r.val = (j.val * 1 + 0) * 3968 + r.val
  ring

theorem b2_at (j : Fin 62) (r : Fin 256) :
    bB2 m c t (ix3 j 0 r) = m ((c : Thread nD τ).loc main_arg4) (ix1 ⟨256 * j.val + r.val, by omega⟩) := by
  rw [bB2_eq, V_v1]
  refine shapeCast_apply _ _ _ _ ?_
  refine (Shape.rowMajor_val_one _).trans (Eq.trans ?_ (Shape.rowMajor_val_three _).symm)
  show 256 * j.val + r.val = (j.val * 1 + 0) * 256 + r.val
  ring

theorem bo_at (n : Fin 992) : bBO m c t (ix2 0 n) = m ((c : Thread nD τ).loc main_arg6) (ix1 n) := by
  rw [bBO_eq, V_v2]
  refine shapeCast_apply _ _ _ _ ?_
  refine (Shape.rowMajor_val_one _).trans (Eq.trans ?_ (Shape.rowMajor_val_two _).symm)
  show n.val = 0 * 992 + n.val
  ring

variable (who : ℕ → BitVec 32)
  (hwho : ∀ (n : Fin 992) (k : Fin 32), lit0t (n.1 * 32 + k.1) = if who n.1 = BitVec.ofNat 32 k.1 then 0x3F800000#32 else 0x00000000#32)
include hwho

theorem s_at (n : Fin 992) (k : Fin 32) : bS m c t (ix2 n k) = if who n.1 = BitVec.ofNat 32 k.1 then (1 : EReal) else 0 := by
  rw [bS_eq, V_cst]
  have e : lit0 (S992x32.rowMajor (ix2 n k)) = lit0t (n.1 * 32 + k.1) := by
    have e' : (S992x32.rowMajor (ix2 n k)).val = n.1 * 32 + k.1 := Shape.rowMajor_val_two _
    show lit0t (S992x32.rowMajor (ix2 n k)).val = _
    rw [e']
  show FloatOps.ofBits (F := Ideal) .f32 (lit0 (S992x32.rowMajor (ix2 n k))) = _
  rw [e, hwho n k]
  split_ifs
  · exact Ideal.ofBits_one_f32
  · exact Ideal.ofBits_zero_f32

/-- The votes of the arguments device `c` was launched with. -/
def kernelVotes : Mat 256 32 :=
  votes who (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem outAt_eq (p : Fin 256) (k : Fin 32) : outAt m c t (ix2 p k) = kernelVotes m c who (ix2 p k) := by
  unfold outAt kernelVotes
  rw [← V_main_arg1 m c, ← V_main_arg3 m c, ← V_main_arg5 m c, ← bX_eq m c t]
  exact outV_at c (X2 m c) (XO m c) (bX m c t) (X1 m c) (bB1 m c t) _ (b1_at m c t) (bB2 m c t) _ (b2_at m c t) (bS m c t) who
    (s_at m c t who hwho) (bBO m c t) _ (bo_at m c t) p k

/-- The array of votes at the end of the run. -/
theorem finalA_votes : finalA m c 5 = kernelVotes m c who := by
  refine (dats m 0 c).arrAt_eq_of_covers 5 _ (by decide +kernel) fun t _ y => ?_
  rw [after_w5]
  have ey : ((cfg0.win 5).blk t).view.emb y = y := funext fun a => Fin.ext ((cfg0.win 5).rect_emb_val_of_index_zero t a rfl y)
  rw [ey]
  exact (congrArg (outAt m c t) (eq_ix2 y)).trans ((outAt_eq m c t who hwho (y 0) (y 1)).trans (congrArg (kernelVotes m c who) (eq_ix2 y).symm))

end Cert.Proof.Value

end
-- ==== Proof.Value.Scatter.lean ====
/- The reference's accumulating scatter, read at an index: column `k` of the votes gains the updates of the columns whose
   start index is `k`. -/
module

public import proofs.«01_k».proof.Proof.Value.Spec
public import proofs.«01_k».proof.Proof.Gen.ReferenceIdeal

@[expose] public section

set_option maxRecDepth 16384

noncomputable section

namespace Cert.Proof.Value

open Cert.ReferenceIdeal Cert.ReferenceIdeal.Gen
open Idealize.ShloMosaic Idealize.ShloMosaic.TcCoe Idealize.ShloMosaic.ValueIdx
open scoped BigOperators

/-- The start index an update reads: its own column's. -/
theorem siIdx_at (p : Fin 256) (t : Fin 496) (k) : ScatterDims.siIdx scatter_S256x32_S496x1_S256x496_0_1_1_1 (ix2 p t) k = ix2 t 0 := by
  funext b
  fin_cases b
  · rfl
  · exact Subsingleton.elim (α := Fin 1) _ _

theorem start_zero (p : Fin 256) (t : Fin 496) (idx : IVec S496x1 32) : ScatterDims.start scatter_S256x32_S496x1_S256x496_0_1_1_1 (ix2 p t) idx 0 = 0 := rfl

theorem start_one (p : Fin 256) (t : Fin 496) (idx : IVec S496x1 32) :
    ScatterDims.start scatter_S256x32_S496x1_S256x496_0_1_1_1 (ix2 p t) idx 1 = (idx (ix2 t 0)).toInt :=
  congrArg (fun i => (idx i).toInt) (siIdx_at p t _)

theorem window_zero (p : Fin 256) (t : Fin 496) : ScatterDims.window scatter_S256x32_S496x1_S256x496_0_1_1_1 (ix2 p t) 0 = p.val := rfl

theorem window_one (p : Fin 256) (t : Fin 496) : ScatterDims.window scatter_S256x32_S496x1_S256x496_0_1_1_1 (ix2 p t) 1 = 0 := rfl

/-- Where an update lands: its own row, the column its start index names. -/
theorem lands_at (p : Fin 256) (t : Fin 496) (idx : IVec S496x1 32) (h : (idx (ix2 t 0)).toNat < 32) :
    ScatterDims.resultIdx? scatter_S256x32_S496x1_S256x496_0_1_1_1 (ix2 p t) idx = some (ix2 p ⟨(idx (ix2 t 0)).toNat, h⟩) := by
  have hi : (idx (ix2 t 0)).toInt = ((idx (ix2 t 0)).toNat : ℤ) := BitVec.toInt_eq_toNat_of_lt (by omega)
  have e0 : ScatterDims.start scatter_S256x32_S496x1_S256x496_0_1_1_1 (ix2 p t) idx 0 + ScatterDims.window scatter_S256x32_S496x1_S256x496_0_1_1_1 (ix2 p t) 0 = (p.val : ℤ) := by
    rw [start_zero, window_zero, zero_add]
  have e1 : ScatterDims.start scatter_S256x32_S496x1_S256x496_0_1_1_1 (ix2 p t) idx 1 + ScatterDims.window scatter_S256x32_S496x1_S256x496_0_1_1_1 (ix2 p t) 1 = ((idx (ix2 t 0)).toNat : ℤ) := by
    rw [start_one, window_one, hi]; norm_num
  have hb : ∀ a, 0 ≤ ScatterDims.start scatter_S256x32_S496x1_S256x496_0_1_1_1 (ix2 p t) idx a + ScatterDims.window scatter_S256x32_S496x1_S256x496_0_1_1_1 (ix2 p t) a
      ∧ ScatterDims.start scatter_S256x32_S496x1_S256x496_0_1_1_1 (ix2 p t) idx a + ScatterDims.window scatter_S256x32_S496x1_S256x496_0_1_1_1 (ix2 p t) a < S256x32.size a := by
    intro a
    fin_cases a
    · show 0 ≤ ScatterDims.start scatter_S256x32_S496x1_S256x496_0_1_1_1 (ix2 p t) idx 0 + ScatterDims.window scatter_S256x32_S496x1_S256x496_0_1_1_1 (ix2 p t) 0
        ∧ ScatterDims.start scatter_S256x32_S496x1_S256x496_0_1_1_1 (ix2 p t) idx 0 + ScatterDims.window scatter_S256x32_S496x1_S256x496_0_1_1_1 (ix2 p t) 0 < ((256 : ℕ) : ℤ)
      rw [e0]; have := p.isLt; omega
    · show 0 ≤ ScatterDims.start scatter_S256x32_S496x1_S256x496_0_1_1_1 (ix2 p t) idx 1 + ScatterDims.window scatter_S256x32_S496x1_S256x496_0_1_1_1 (ix2 p t) 1
        ∧ ScatterDims.start scatter_S256x32_S496x1_S256x496_0_1_1_1 (ix2 p t) idx 1 + ScatterDims.window scatter_S256x32_S496x1_S256x496_0_1_1_1 (ix2 p t) 1 < ((32 : ℕ) : ℤ)
      rw [e1]; omega
  unfold ScatterDims.resultIdx?
  rw [dif_pos hb]
  refine congrArg some (funext fun a => Fin.ext ?_)
  fin_cases a
  · show (ScatterDims.start scatter_S256x32_S496x1_S256x496_0_1_1_1 (ix2 p t) idx 0 + ScatterDims.window scatter_S256x32_S496x1_S256x496_0_1_1_1 (ix2 p t) 0).toNat = p.val
    rw [e0]; exact Int.toNat_natCast _
  · show (ScatterDims.start scatter_S256x32_S496x1_S256x496_0_1_1_1 (ix2 p t) idx 1 + ScatterDims.window scatter_S256x32_S496x1_S256x496_0_1_1_1 (ix2 p t) 1).toNat = (idx (ix2 t 0)).toNat
    rw [e1]; exact Int.toNat_natCast _

/-- Two columns are the same when their words are. -/
theorem column_iff (v : BitVec 32) (h : v.toNat < 32) (k : Fin 32) : (⟨v.toNat, h⟩ : Fin 32) = k ↔ v = BitVec.ofNat 32 k.val := by
  rw [Fin.ext_iff]
  have hk : k.val % 2 ^ 32 = k.val := Nat.mod_eq_of_lt (by omega)
  exact ⟨fun e => BitVec.eq_of_toNat_eq (by rw [BitVec.toNat_ofNat, hk]; exact e), fun e => by
    show v.toNat = k.val
    rw [e, BitVec.toNat_ofNat, hk]⟩

/-- The scatter read at an index. -/
theorem scatter_at (x : FVec Ideal S256x32 .f32) (idx : IVec S496x1 32) (upd : FVec Ideal S256x496 .f32)
    (h : ∀ t : Fin 496, (idx (ix2 t 0)).toNat < 32) (p : Fin 256) (k : Fin 32) :
    (Host.scatterAdd scatter_S256x32_S496x1_S256x496_0_1_1_1 x idx upd : FVec Ideal S256x32 .f32) (ix2 p k)
      = (x (ix2 p k) : EReal) + ∑ t : Fin 496, if idx (ix2 t 0) = BitVec.ofNat 32 k.val then (upd (ix2 p t) : EReal) else 0 := by
  show Ideal.hostScatterAdd scatter_S256x32_S496x1_S256x496_0_1_1_1 x idx upd (ix2 p k) = _
  unfold Ideal.hostScatterAdd
  refine congrArg ((x (ix2 p k) : EReal) + ·) ?_
  rw [Finset.sum_filter, sum_idx2, Finset.sum_eq_single p]
  · refine Finset.sum_congr rfl fun t _ => ?_
    refine if_congr ?_ rfl rfl
    rw [lands_at p t idx (h t), Option.some_inj, ← column_iff _ (h t)]
    exact ⟨fun e => congrFun e 1, fun e => by rw [e]⟩
  · intro p' _ hp
    refine Finset.sum_eq_zero fun t _ => if_neg ?_
    rw [lands_at p' t idx (h t), Option.some_inj]
    exact fun e => hp (congrFun e 0)
  · exact fun hp => absurd (Finset.mem_univ p) hp

end Cert.Proof.Value

end
-- ==== Proof.Value.ReferenceSide.lean ====
/- The value the reference leaves, as the plain sums of `Spec`. -/
module

public import proofs.«01_k».proof.Proof.Value.Scatter
public import proofs.«01_k».proof.Proof.Gen.ReferenceIdeal.Run

@[expose] public section

set_option maxRecDepth 16384

noncomputable section

namespace Cert.Proof.Value

open Cert.ReferenceIdeal Cert.ReferenceIdeal.Gen Cert.ReferenceIdeal.Value
open Idealize.ShloMosaic Idealize.ShloMosaic.TcCoe Idealize.ShloMosaic.ValueIdx
open scoped BigOperators

/-! ## The layers -/

/-- A bias as one row spread over many, read at an index. -/
theorem bias_at {a b : ℕ} (hb1 : b ≠ 1) (v : Row b) (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  rw [broadcastInDim_oneRow_apply]
  refine broadcastInDim_apply ![1] h1 v _ _ fun d => ?_
  fin_cases d
  show q.val = if b = 1 then 0 else q.val
  rw [if_neg hb1]

/-- The host's layer: a product, a bias, the larger of the result and zero. -/
def hostLayer {k n : ℕ} (d : DotDims ⟨2, ![256, k]⟩ ⟨2, ![k, n]⟩ ⟨2, ![256, n]⟩)
    (h1 : (⟨1, ![n]⟩ : Shape).BroadcastsInDim ⟨2, ![1, n]⟩ ![1]) (h2 : (⟨2, ![1, n]⟩ : Shape).BroadcastsInDim ⟨2, ![256, n]⟩ ![0, 1])
    (h0 : S_.BroadcastsInDim ⟨2, ![256, n]⟩ ![]) (x : FVec Ideal ⟨2, ![256, k]⟩ .f32) (w : FVec Ideal ⟨2, ![k, n]⟩ .f32)
    (b : FVec Ideal ⟨1, ![n]⟩ .f32) : FVec Ideal ⟨2, ![256, n]⟩ .f32 :=
  maximumf (addf (Host.dotGeneral d none x w)
    (broadcastInDim ⟨2, ![256, n]⟩ ![0, 1] h2 (broadcastInDim ⟨2, ![1, n]⟩ ![1] h1 b)))
    (broadcastInDim ⟨2, ![256, n]⟩ ![] h0 (constant S_ .f32 0x00000000#32))

theorem hostLayer_eq {k n : ℕ} (hn : n ≠ 1) (d : DotDims ⟨2, ![256, k]⟩ ⟨2, ![k, n]⟩ ⟨2, ![256, n]⟩) (hd : d = DotDims.plain 256 k n)
    (h1 : (⟨1, ![n]⟩ : Shape).BroadcastsInDim ⟨2, ![1, n]⟩ ![1]) (h2 : (⟨2, ![1, n]⟩ : Shape).BroadcastsInDim ⟨2, ![256, n]⟩ ![0, 1])
    (h0 : S_.BroadcastsInDim ⟨2, ![256, n]⟩ ![]) (x : Mat 256 k) (w : Mat k n) (b : Row n) :
    hostLayer d h1 h2 h0 x w b = layer x w b := by
  refine funext fun y => ?_
  obtain ⟨p, q, rfl⟩ : ∃ (p : Fin 256) (q : Fin n), y = ix2 p q := ⟨y 0, y 1, eq_ix2 y⟩
  rw [layer_apply]
  unfold hostLayer
  rw [maximumf_apply, addf_apply, dot_at d hd, bias_at hn, broadcastInDim_constant, broadcast_apply]
  exact congrArg (max _) Ideal.ofBits_zero_f32

/-- The reference's 992 outputs. -/
def lastM (x : FVec Ideal S256x512 .f32) (w1 : FVec Ideal S512x15872 .f32) (b1 : FVec Ideal S15872 .f32)
    (w2 : FVec Ideal S15872x15872 .f32) (b2 : FVec Ideal S15872 .f32) (wo : FVec Ideal S15872x992 .f32) (bo : FVec Ideal S992 .f32) :
    FVec Ideal S256x992 .f32 :=
  addf (Host.dotGeneral dot_S256x15872_S15872x992_S256x992_1_0_0_1_n_n none
      (hostLayer dot_S256x15872_S15872x15872_S256x15872_1_0_0_1_n_n bcast_S15872_S1x15872_1 bcast_S1x15872_S256x15872_0_1 bcast_S_S256x15872
        (hostLayer dot_S256x512_S512x15872_S256x15872_1_0_0_1_n_n bcast_S15872_S1x15872_1 bcast_S1x15872_S256x15872_0_1 bcast_S_S256x15872 x w1 b1)
        w2 b2) wo)
    (broadcastInDim S256x992 ![0, 1] bcast_S1x992_S256x992_0_1 (broadcastInDim S1x992 ![1] bcast_S992_S1x992_1 bo))

theorem lastM_at (x : Mat 256 512) (w1 : Mat 512 15872) (b1 : Row 15872) (w2 : Mat 15872 15872) (b2 : Row 15872)
    (wo : Mat 15872 992) (bo : Row 992) (p : Fin 256) (n : Fin 992) :
    lastM x w1 b1 w2 b2 wo bo (ix2 p n) = outputs x w1 b1 w2 b2 wo bo p n := by
  unfold lastM outputs
  rw [hostLayer_eq (by norm_num) dot_S256x512_S512x15872_S256x15872_1_0_0_1_n_n rfl,
    hostLayer_eq (by norm_num) dot_S256x15872_S15872x15872_S256x15872_1_0_0_1_n_n rfl,
    addf_apply, dot_at dot_S256x15872_S15872x992_S256x992_1_0_0_1_n_n rfl, bias_at (by norm_num)]

/-! ## The two outputs of a pair -/

/-- The outputs at even places, -/
def firsts (o : FVec Ideal S256x992 .f32) : FVec Ideal S256x496 .f32 :=
  shapeCast S256x496 (extractStridedSlice S256x496x1 ![0, 0, 0] (shapeCast S256x496x2 o shapeCasts_S256x992_S256x496x2)
    slices_S256x496x2_S256x496x1_0_0_0) shapeCasts_S256x496x1_S256x496

/-- and those at odd places. -/
def seconds (o : FVec Ideal S256x992 .f32) : FVec Ideal S256x496 .f32 :=
  shapeCast S256x496 (extractStridedSlice S256x496x1 ![0, 0, 1] (shapeCast S256x496x2 o shapeCasts_S256x992_S256x496x2)
    slices_S256x496x2_S256x496x1_0_0_1) shapeCasts_S256x496x1_S256x496

theorem half_at (o : Mat 256 992) (e : Fin 2) (h1 : S256x992.ShapeCasts S256x496x2) (hs : S256x496x2.Slices ![0, 0, e.val] S256x496x1)
    (h2 : S256x496x1.ShapeCasts S256x496) (p : Fin 256) (t : Fin 496) :
    shapeCast S256x496 (extractStridedSlice S256x496x1 ![0, 0, e.val] (shapeCast S256x496x2 o h1) hs) h2 (ix2 p t)
      = o (ix2 p ⟨2 * t.val + e.val, by omega⟩) := by
  refine (shapeCast_apply _ h2 (ix2 p t) (ix3 p t (0 : Fin 1)) ?_).trans ?_
  · refine (Shape.rowMajor_val_three _).trans (Eq.trans ?_ (Shape.rowMajor_val_two _).symm)
    show (p.val * 496 + t.val) * 1 + 0 = p.val * 496 + t.val
    ring
  refine (extractStridedSlice_apply _ _ hs (ix3 p t (0 : Fin 1)) (ix3 p t e) ?_).trans ?_
  · intro a
    fin_cases a
    · exact (Nat.zero_add _).symm
    · exact (Nat.zero_add _).symm
    · rfl
  refine shapeCast_apply _ h1 _ _ ?_
  refine (Shape.rowMajor_val_two _).trans (Eq.trans ?_ (Shape.rowMajor_val_three _).symm)
  show p.val * 992 + (2 * t.val + e.val) = (p.val * 496 + t.val) * 2 + e.val
  ring

/-- Which pairs vote: those where one output is the larger, or the two are the same. -/
def voting (o : FVec Ideal S256x992 .f32) : IVec S256x496 1 :=
  ori (cmpf .ogt (subf (firsts o) (seconds o)) (broadcastInDim S256x496 ![] bcast_S_S256x496 (constant S_ .f32 0x00000000#32)))
    (cmpf .oge (Host.negf (subf (firsts o) (seconds o))) (broadcastInDim S256x496 ![] bcast_S_S256x496 (constant S_ .f32 0x00000000#32)))

/-- An extended real is above zero, or its negation is not below it. -/
theorem either (d : EReal) : IntOp.ori (Ideal.cmp .ogt d 0) (Ideal.cmp .oge (-d) 0) = 1 := by
  rcases lt_or_ge 0 d with h | h
  · have e : Ideal.cmp .ogt d 0 = 1#1 := by simp [Ideal.cmp, h]
    rw [e]
    generalize Ideal.cmp .oge (-d) 0 = v
    revert v; decide
  · have e : Ideal.cmp .oge (-d) 0 = 1#1 := by simp [Ideal.cmp, h]
    rw [e]
    generalize Ideal.cmp .ogt d 0 = v
    revert v; decide

/-- So every pair votes. -/
theorem voting_at (o : FVec Ideal S256x992 .f32) (y : S256x496.Idx) : voting o y = 1 := by
  have e : voting o y = IntOp.ori (Ideal.cmp .ogt (subf (firsts o) (seconds o) y) (Ideal.ofBits .f32 0x00000000#32))
      (Ideal.cmp .oge (-(subf (firsts o) (seconds o) y : EReal)) (Ideal.ofBits .f32 0x00000000#32)) := rfl
  rw [e, Ideal.ofBits_zero_f32]
  exact either _

/-- What is added to the votes: an output where its pair votes. -/
def kept (o : FVec Ideal S256x992 .f32) (v : FVec Ideal S256x496 .f32) : FVec Ideal S256x496 .f32 :=
  select (voting o) v (broadcastInDim S256x496 ![] bcast_S_S256x496 (constant S_ .f32 0x00000000#32))

theorem kept_eq (o : FVec Ideal S256x992 .f32) (v : FVec Ideal S256x496 .f32) : kept o v = v := by
  funext y
  unfold kept
  rw [select_apply, voting_at]
  exact select_one _ _

/-! ## The candidates -/

/-- A table of candidates as start indices, one below zero counted from the end. -/
def starts (l : Fin 496 → BitVec 32) : IVec S496x1 32 :=
  broadcastInDim S496x1 ![0] bcast_S496_S496x1_0
    (select (cmpi .slt (fun i : S496.Idx => l (S496.rowMajor i)) (broadcastInDim S496 ![] bcast_S_S496 (constantI S_ 32 0#32)))
      (addi (fun i : S496.Idx => l (S496.rowMajor i)) (broadcastInDim S496 ![] bcast_S_S496 (constantI S_ 32 32#32)))
      (fun i : S496.Idx => l (S496.rowMajor i)))

/-- A table of candidates among the 32 is read as it is. -/
theorem starts_at (l : Fin 496 → BitVec 32) (h : ∀ t, (l t).toNat < 32) (t : Fin 496) : starts l (ix2 t 0) = l t := by
  unfold starts
  rw [broadcastInDim_apply ![0] bcast_S496_S496x1_0 _ (ix2 t 0) (ix1 t) (fun a => by fin_cases a; rfl), select_apply]
  have e : S496.rowMajor (ix1 t) = t := Fin.ext (Shape.rowMajor_val_one _)
  have ec : cmpi .slt (fun i : S496.Idx => l (S496.rowMajor i)) (broadcastInDim S496 ![] bcast_S_S496 (constantI S_ 32 0#32)) (ix1 t)
      = BitVec.ofBool ((l (S496.rowMajor (ix1 t))).slt 0#32) := rfl
  have en : (l t).slt 0#32 = false := by
    have hi : (l t).toInt = ((l t).toNat : ℤ) := BitVec.toInt_eq_toNat_of_lt (by have := h t; omega)
    simp [BitVec.slt, hi]
  rw [ec, e, en]
  exact select_zero _ _

/-! ## The result -/

variable (m : (ℓ : Loc nD τ sig) → Buf (Elt Ideal) ℓ) (c : Dev nD)

/-- The outputs of the arguments device `c` was launched with. -/
abbrev lastOf : FVec Ideal S256x992 .f32 :=
  lastM (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The result by its parts. -/
theorem result_parts : res_main_v46 m c
    = Host.scatterAdd scatter_S256x32_S496x1_S256x496_0_1_1_1
        (Host.scatterAdd scatter_S256x32_S496x1_S256x496_0_1_1_1
          (broadcastInDim S256x32 ![] bcast_S_S256x32 (constant S_ .f32 0x00000000#32) : FVec Ideal S256x32 .f32)
          (starts lit0) (kept (lastOf m c) (firsts (lastOf m c))))
        (starts lit1) (kept (lastOf m c) (seconds (lastOf m c))) := rfl

/-- The votes of the arguments device `c` was launched with. -/
def referenceVotes (who : ℕ → BitVec 32) : Mat 256 32 :=
  votes who (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- A sum over the outputs, pair by pair. -/
theorem sum_pairs (f : Fin 992 → EReal) :
    ∑ n, f n = ∑ t : Fin 496, (f ⟨2 * t.val, by omega⟩ + f ⟨2 * t.val + 1, by omega⟩) := by
  rw [sum_blocks (a := 496) (b := 2) (n := 992) (by norm_num)]
  exact Finset.sum_congr rfl fun t _ => Fin.sum_univ_two _

/-- The two scatters read at an index: a sum over the outputs, output `2 t` going to the first table's candidate `t` and
    output `2 t + 1` to the second's. -/
theorem tally_at (o : Mat 256 992) (who : ℕ → BitVec 32) (h0 : ∀ t, (lit0 t).toNat < 32) (h1 : ∀ t, (lit1 t).toNat < 32)
    (hw0 : ∀ t : Fin 496, who (2 * t.val) = lit0 t) (hw1 : ∀ t : Fin 496, who (2 * t.val + 1) = lit1 t) (p : Fin 256) (k : Fin 32) :
    ((Host.scatterAdd scatter_S256x32_S496x1_S256x496_0_1_1_1
        (Host.scatterAdd scatter_S256x32_S496x1_S256x496_0_1_1_1
          (broadcastInDim S256x32 ![] bcast_S_S256x32 (constant S_ .f32 0x00000000#32) : FVec Ideal S256x32 .f32)
          (starts lit0) (kept o (firsts o)))
        (starts lit1) (kept o (seconds o)) : FVec Ideal S256x32 .f32) (ix2 p k) : EReal)
      = ∑ n : Fin 992, if who n.val = BitVec.ofNat 32 k.val then o (ix2 p n) else 0 := by
  rw [kept_eq, kept_eq]
  rw [scatter_at _ _ _ (fun t => by rw [starts_at lit1 h1]; exact h1 t), scatter_at _ _ _ (fun t => by rw [starts_at lit0 h0]; exact h0 t)]
  rw [broadcastInDim_constant, broadcast_apply,
    show (Scalar.ofBits (F := Ideal) .f32 0x00000000#32 : EReal) = 0 from Ideal.ofBits_zero_f32, zero_add, ← Finset.sum_add_distrib, sum_pairs]
  refine Finset.sum_congr rfl fun t _ => ?_
  rw [starts_at lit0 h0, starts_at lit1 h1, ← hw0 t, ← hw1 t]
  exact congrArg₂ (· + ·) (if_congr Iff.rfl (half_at o 0 _ _ _ p t) rfl) (if_congr Iff.rfl (half_at o 1 _ _ _ p t) rfl)

/-- The reference's result is the votes. -/
theorem result_votes (who : ℕ → BitVec 32) (h0 : ∀ t, (lit0 t).toNat < 32) (h1 : ∀ t, (lit1 t).toNat < 32)
    (hw0 : ∀ t : Fin 496, who (2 * t.val) = lit0 t) (hw1 : ∀ t : Fin 496, who (2 * t.val + 1) = lit1 t) :
    res_main_v46 m c = referenceVotes m c who := by
  refine funext fun y => ?_
  obtain ⟨p, k, rfl⟩ : ∃ (p : Fin 256) (k : Fin 32), y = ix2 p k := ⟨y 0, y 1, eq_ix2 y⟩
  refine (congrFun (result_parts m c) _).trans ((tally_at (lastOf m c) who h0 h1 hw0 hw1 p k).trans ?_)
  exact Finset.sum_congr rfl fun n _ => if_congr Iff.rfl (lastM_at _ _ _ _ _ _ _ p n) rfl

end Cert.Proof.Value

end
-- ==== Proof.Algebraic.lean ====
/- The kernel's result is the reference's: both leave the same votes. -/
module

public import proofs.«01_k».proof.Defs
public import proofs.«01_k».proof.Proof.Value.Table
public import proofs.«01_k».proof.Proof.Value.KernelRun
public import proofs.«01_k».proof.Proof.Value.ReferenceSide

@[expose] public section

noncomputable section

namespace Cert.Proof

open Idealize.ShloMosaic Idealize.ShloMosaic.TcCoe Idealize.SL.Sem

/-- Output `2 t` votes for the first table's candidate `t`, -/
theorem cand_even (t : Fin 496) : Value.cand (2 * t.val) = Cert.ReferenceIdeal.lit0 t := by
  unfold Value.cand
  rw [if_pos (by omega), show 2 * t.val / 2 = t.val by omega]

/-- and output `2 t + 1` for the second's. -/
theorem cand_odd (t : Fin 496) : Value.cand (2 * t.val + 1) = Cert.ReferenceIdeal.lit1 t := by
  unfold Value.cand
  rw [if_neg (by omega), show (2 * t.val + 1) / 2 = t.val by omega]

/-- From the same arguments the kernel and the reference, over the extended reals, end with the same votes. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Value.kernelVotes m c Value.cand, ?_, ?_⟩
  · refine (θ_run Cert.KernelIdeal.defs _ _).mono (fun r h c => ⟨?_, KI.args_kept m c h.1⟩) (KI.run_main m g)
    exact ((h.1 c).1 5).trans (Value.finalA_votes m c Value.cand Value.member)
  · refine (θ_run Cert.ReferenceIdeal.defs _ _).mono (fun r h c => ⟨?_, (h c).2⟩) (Cert.ReferenceIdeal.Value.run (F := Ideal) m' g')
    refine (h c).1.trans ((Value.result_votes m' c Value.cand Value.first_lt Value.second_lt cand_even cand_odd).trans ?_)
    obtain ⟨e0, e1, e2, e3, e4, e5, e6⟩ := hargs c
    exact Value.votes_congr Value.cand e0 e1 e2 e3 e4 e5 e6

end Cert.Proof

end
-- ==== Proof.lean ====
module

public import proofs.«01_k».proof.Defs
public import proofs.«01_k».proof.Proof.Frames
public import proofs.«01_k».proof.Proof.Algebraic

@[expose] public section

noncomputable section

namespace Cert.Proof

/-- Everything this directory claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
